-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S2 : Shape := ⟨1, ![2]⟩
abbrev S_ : Shape := ⟨0, ![]⟩
abbrev S511x512 : Shape := ⟨2, ![511, 512]⟩
abbrev S1 : Shape := ⟨1, ![1]⟩
abbrev S1x512 : Shape := ⟨2, ![1, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27 : BitVec 32 := 1#32
  let v43 : BitVec 32 := Scalar.muli v24 c1_i32_27
  let v44 : BitVec 32 := Scalar.addi c0_i32_28 v43
  v44.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v51 : BitVec 32 := Scalar.muli v13 c1_i32_34
  let v52 : BitVec 32 := Scalar.addi c0_i32_35 v51
  v52.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4094x512 : Shape := ⟨2, ![4094, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4094x512, .f32⟩
  | .hbm, ⟨2, _⟩ => ⟨S_, .f32⟩
  | .hbm, ⟨3, _⟩ => ⟨S4094x512, .f32⟩
  | .hbm, ⟨4, _⟩ => ⟨S4094x512, .f32⟩
  | .hbm, ⟨5, _⟩ => ⟨S4094x512, .f32⟩
  | .hbm, ⟨6, _⟩ => ⟨S_, .f32⟩
  | .hbm, ⟨7, _⟩ => ⟨S4094x512, .f32⟩
  | .hbm, ⟨8, _⟩ => ⟨S4094x512, .f32⟩
  | .hbm, ⟨9, _⟩ => ⟨S4094x512, .f32⟩
  | .hbm, ⟨10, _⟩ => ⟨S4094x512, .f32⟩
  | .hbm, ⟨11, _⟩ => ⟨S_, .f32⟩
  | .hbm, ⟨12, _⟩ => ⟨S4094x512, .f32⟩
  | .hbm, ⟨13, _⟩ => ⟨S4094x512, .f32⟩
  | .hbm, ⟨14, _⟩ => ⟨S4094x512, .f32⟩
  | .hbm, ⟨15, _⟩ => ⟨S1x512, .f32⟩
  | .hbm, ⟨16, _⟩ => ⟨S1x512, .f32⟩
  | .hbm, ⟨17, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Places.lean ====
/-
Where things are: the ring of four devices, the rows a device lends and the rows it receives into, and the semaphores.

Each device exchanges one row with each neighbour. A *side* is a `Bool`:
  * `false` — towards the right neighbour: the LAST row of the block travels, and lands in halo row 0 there;
  * `true`  — towards the left neighbour: the FIRST row of the block travels, and lands in halo row 1 there.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueIdxCoords
public import Idealize.ShloMosaic.Lib.WritesUnit
public import Idealize.ShloMosaic.Lib.Tactic

@[expose] public section

noncomputable section

namespace Cert.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring of devices -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- The neighbour on a side: the right one for `false`, the left one for `true`. -/
def peer : Bool → Dev nD → Dev nD
  | false => nxt
  | true => prv

theorem peer_peer_not (b : Bool) (c : Dev nD) : peer b (peer (!b) c) = c := by revert b c; decide
theorem peer_not_peer (b : Bool) (c : Dev nD) : peer (!b) (peer b c) = c := by revert b c; decide
theorem nxt_prv (c : Dev nD) : nxt (prv c) = c := peer_peer_not false c
theorem prv_nxt (c : Dev nD) : prv (nxt c) = c := peer_peer_not true c

/-- Going one step towards a side is a permutation of the devices. -/
def step (b : Bool) : Dev nD ≃ Dev nD := ⟨peer b, peer (!b), peer_not_peer b, peer_peer_not b⟩

/-- The kernel's first signal names its left neighbour, its second the right one; -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
/-- its first transfer goes to the right neighbour, its second to the left one. -/
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel

/-! ## The memrefs -/

/-- The device's block of `x`, its block of the result, and the two halo rows: the three buffers the body works on. -/
abbrev xM : Memref sig .tc .vmem S1024x512 .f32 := Memref.whole cc0_stg0_0
abbrev oM : Memref sig .tc .vmem S1024x512 .f32 := Memref.whole cc0_stg1_0
abbrev hM : Memref sig .tc .vmem S2x512 .f32 := Memref.whole cc0_scratch0

/-- The row of the block a side's transfer lends, and the halo row it lands in. -/
abbrev edgeRow : Bool → ℕ
  | false => 1023
  | true => 0
abbrev haloRow : Bool → ℕ
  | false => 0
  | true => 1

theorem edge_inb : ∀ (b : Bool) (a : Fin 2), (![edgeRow b, 0] : Fin 2 → ℕ) a + S1x512.size a ≤ S1024x512.size a := by decide
theorem halo_inb : ∀ (b : Bool) (a : Fin 2), (![haloRow b, 0] : Fin 2 → ℕ) a + S1x512.size a ≤ S2x512.size a := by decide
theorem sem_inb : ∀ (b : Bool) (a : Fin 1), (![haloRow b] : Fin 1 → ℕ) a + S1.size a ≤ S2.size a := by decide

/-- The edge row of the block, and the halo row, as one-row memrefs. -/
abbrev edgeM (b : Bool) : Memref sig .tc .vmem S1x512 .f32 :=
  xM.slice (Rect.unit (s := S1024x512) ![edgeRow b, 0] S1x512.size (edge_inb b)) (fun _ => rfl)
abbrev haloM (b : Bool) : Memref sig .tc .vmem S1x512 .f32 :=
  hM.slice (Rect.unit (s := S2x512) ![haloRow b, 0] S1x512.size (halo_inb b)) (fun _ => rfl)

/-! ## The semaphores and their cells -/

/-- The runtime's barrier semaphore; the send and the receive semaphore of each side. -/
abbrev barS : Sem sig := (SemArray.scalar (sig.barrier 0 rfl) : Sems sig S_).sem
abbrev sendS (b : Bool) : DmaSem sig :=
  ((cc0_scratch1.slice (Rect.unit (s := S2) ![haloRow b] S1.size (sem_inb b))).squeeze S_ squeezes_S1_S_).sem
abbrev recvS (b : Bool) : DmaSem sig :=
  ((cc0_scratch2.slice (Rect.unit (s := S2) ![haloRow b] S1.size (sem_inb b))).squeeze S_ squeezes_S1_S_).sem

theorem sendS_val (b : Bool) : (sendS b).val = 2 + haloRow b := by cases b <;> rfl
theorem recvS_val (b : Bool) : (recvS b).val = 4 + haloRow b := by cases b <;> rfl

theorem send_ne_recv (a b : Bool) : sendS a ≠ recvS b := fun h => by
  have := congrArg Fin.val h
  rw [sendS_val, recvS_val] at this
  revert this; revert a b; decide
theorem send_inj {a b : Bool} (h : sendS a = sendS b) : a = b := by
  have := congrArg Fin.val h
  rw [sendS_val, sendS_val] at this
  revert this; revert a b; decide
theorem recv_inj {a b : Bool} (h : recvS a = recvS b) : a = b := by
  have := congrArg Fin.val h
  rw [recvS_val, recvS_val] at this
  revert this; revert a b; decide

abbrev barCell (c : Dev nD) : GSem nD τ sig := ((c : Thread nD τ), .reg barS)
abbrev sendCell (b : Bool) (c : Dev nD) : GSem nD τ sig := ((c : Thread nD τ), .dma (sendS b))
abbrev recvCell (b : Bool) (c : Dev nD) : GSem nD τ sig := ((c : Thread nD τ), .dma (recvS b))

/-- One row's worth of transfer credit: what every send and receive semaphore of the exchange counts. -/
abbrev N : ℕ := (haloM false).view.dmaCredit
theorem N_pos : 0 < N := View.dmaCredit_pos _ (by decide)
theorem halo_credit (b : Bool) : (haloM b).view.dmaCredit = N := by cases b <;> rfl
theorem edge_credit (b : Bool) : (edgeM b).view.dmaCredit = N := by cases b <;> rfl

/-! ## Rows as sets of elements -/

/-- An element lies in halo row `b` exactly when its row coordinate is that row's. -/
theorem mem_halo (b : Bool) (i : S2x512.Idx) : i ∈ (haloM b).view.set ↔ (i 0).val = haloRow b := by
  refine (Finset.ext_iff.mp (View.set_slice_whole cc0_scratch0 _) i).trans ?_
  rw [Rect.mem_set_unit]
  refine Fin.forall_fin_two.trans ?_
  have h1 : (i 1).val < 512 := (i 1).isLt
  show ((haloRow b ≤ (i 0).val ∧ (i 0).val < haloRow b + 1) ∧ (0 ≤ (i 1).val ∧ (i 1).val < 0 + 512)) ↔ _
  omega

theorem halo_disjoint : Disjoint (haloM false).view.set (haloM true).view.set :=
  Finset.disjoint_left.mpr fun i h h' => by
    have e := (mem_halo false i).mp h
    rw [(mem_halo true i).mp h'] at e
    exact absurd e (by decide)

theorem halo_cover : (haloM false).view.set ∪ (haloM true).view.set = Finset.univ :=
  Finset.eq_univ_iff_forall.mpr fun i => by
    have h0 : (i 0).val < 2 := (i 0).isLt
    rcases (show (i 0).val = 0 ∨ (i 0).val = 1 by omega) with h | h
    · exact Finset.mem_union_left _ ((mem_halo false i).mpr h)
    · exact Finset.mem_union_right _ ((mem_halo true i).mpr h)

/-- An element lies in edge row `b` exactly when its row coordinate is that row's. -/
theorem mem_edge (b : Bool) (i : S1024x512.Idx) : i ∈ (edgeM b).view.set ↔ (i 0).val = edgeRow b := by
  refine (Finset.ext_iff.mp (View.set_slice_whole cc0_stg0_0 _) i).trans ?_
  rw [Rect.mem_set_unit]
  refine Fin.forall_fin_two.trans ?_
  have h1 : (i 1).val < 512 := (i 1).isLt
  show ((edgeRow b ≤ (i 0).val ∧ (i 0).val < edgeRow b + 1) ∧ (0 ≤ (i 1).val ∧ (i 1).val < 0 + 512)) ↔ _
  omega

theorem edge_disjoint : (edgeM true).view.set ⊆ Finset.univ \ (edgeM false).view.set := fun i h =>
  Finset.mem_sdiff.mpr ⟨Finset.mem_univ i, fun h' => by
    have e := (mem_edge false i).mp h'
    rw [(mem_edge true i).mp h] at e
    exact absurd e (by decide)⟩

end Cert.Halo

end
-- ==== Proof.Contents.lean ====
/-
What the arrays hold, element by element: the halo rows after the exchange, and the block of the result each device
leaves, both as functions of the four devices' blocks of `x`; and that the body's stores leave exactly that.
-/
module

public import proofs.«01_k».proof.Proof.Places

@[expose] public section

noncomputable section

namespace Cert.Halo

open Cert.KernelIdeal Cert.KernelIdeal.Gen
open Idealize.ShloMosaic Idealize.ShloMosaic.TcCoe Idealize.ShloMosaic.ValueIdx
open Idealize.SL Idealize.SL.Sem

variable {F : FTy → Type} [FloatOps F]

/-- A device's block of `x` (or of the result), and its two halo rows. -/
abbrev Block (F : FTy → Type) : Type := S1024x512.Idx → Elt F .f32
abbrev Rows (F : FTy → Type) : Type := S2x512.Idx → Elt F .f32

/-- The three-point filter on one element: a quarter of the two vertical neighbours' sum plus half the element. -/
def tap (up down mid : F .f32) : F .f32 :=
  FloatOps.addf (FloatOps.mulf (Scalar.ofBits .f32 0x3E800000#32) (FloatOps.addf up down))
    (FloatOps.mulf (Scalar.ofBits .f32 0x3F000000#32) mid)

/-- A block's element at a row and a column. -/
abbrev at2 (x : Block F) (r : ℕ) (hr : r < 1024) (l : Fin 512) : Elt F .f32 := x (ix2 ⟨r, hr⟩ l)

variable (X : Dev nD → Block F)

/-- The two halo rows of device `c` after the exchange: the left neighbour's last row and the right neighbour's first. -/
def haloOf (c : Dev nD) : Rows F := fun i =>
  if (i 0).val = 0 then at2 (X (prv c)) 1023 (by decide) (i 1) else at2 (X (nxt c)) 0 (by decide) (i 1)

/-- The element above `i`: in the block, or, above its first row, in the left neighbour's last row. -/
def above (c : Dev nD) (i : S1024x512.Idx) : Elt F .f32 :=
  if (i 0).val = 0 then at2 (X (prv c)) 1023 (by decide) (i 1)
  else at2 (X c) ((i 0).val - 1) (Nat.lt_of_le_of_lt (Nat.sub_le _ _) (i 0).isLt) (i 1)

/-- The element below `i`: in the block, or, below its last row, in the right neighbour's first row. -/
def below (c : Dev nD) (i : S1024x512.Idx) : Elt F .f32 :=
  if h : (i 0).val < 1023 then at2 (X c) ((i 0).val + 1) (Nat.succ_lt_succ h) (i 1)
  else at2 (X (nxt c)) 0 (by decide) (i 1)

/-- The rows kept as they are: the first of the whole array and the last of it. -/
def Kept (c : Dev nD) (i : S1024x512.Idx) : Prop := (c = 0 ∧ (i 0).val = 0) ∨ (c = 3 ∧ (i 0).val = 1023)

instance (c : Dev nD) (i : S1024x512.Idx) : Decidable (Kept c i) := by unfold Kept; infer_instance

/-- The block of the result device `c` leaves: the filter everywhere but on the rows kept. -/
def outOf (c : Dev nD) : Block F := fun i =>
  if Kept c i then X c i else tap (above X c i) (below X c i) (X c i)

/-! ## Loads and stores of whole rows -/

/-- The rectangle of `W` whole rows from row `o` of a block. -/
abbrev rowsR (o : ℕ) (size : Fin 2 → ℕ) (inb : ∀ a : Fin 2, (![o, 0] : Fin 2 → ℕ) a + size a ≤ S1024x512.size a) : Rect S1024x512 :=
  Rect.unit (s := S1024x512) ![o, 0] size inb

omit [FloatOps F] in
/-- A load of whole rows reads, at `j`, the element `o` rows further down. -/
theorem load_rows (x : Block F) (o : ℕ) (size : Fin 2 → ℕ) (inb) (j : (⟨2, size⟩ : Shape).Idx) (i : S1024x512.Idx)
    (h0 : (i 0).val = o + (j 0).val) (h1 : (i 1).val = (j 1).val) :
    xM.view.readAt (Elt F) (rowsR o size inb).toLoadRect x j = x i := by
  refine congrArg x (funext (Fin.forall_fin_two.mpr ⟨Fin.ext ?_, Fin.ext ?_⟩))
  · show o + 1 * (j 0).val = (i 0).val
    omega
  · show 0 + 1 * (j 1).val = (i 1).val
    omega

omit [FloatOps F] in
/-- A load of halo row `o` reads that row's elements. -/
theorem load_halo (h : Rows F) (o : ℕ) (inb : ∀ a : Fin 2, (![o, 0] : Fin 2 → ℕ) a + S1x512.size a ≤ S2x512.size a) (j : S1x512.Idx) (i : S2x512.Idx)
    (h0 : (i 0).val = o) (h1 : (i 1).val = (j 1).val) :
    hM.view.readAt (Elt F) (Rect.unit (s := S2x512) ![o, 0] S1x512.size inb).toLoadRect h j = h i := by
  have hj : (j 0).val < 1 := (j 0).isLt
  refine congrArg h (funext (Fin.forall_fin_two.mpr ⟨Fin.ext ?_, Fin.ext ?_⟩))
  · show o + 1 * (j 0).val = (i 0).val
    omega
  · show 0 + 1 * (j 1).val = (i 1).val
    omega

/-- The four stores' payloads at an index are the filter of what was loaded there. -/
theorem pay4_apply (a b x : Vec F S511x512 .f32) (j : S511x512.Idx) : k0_pay4 (k0_pay3 a) b x j = tap (a j) (b j) (x j) := by
  unfold k0_pay4 k0_pay3; simp only [shapeCast_self]; rfl
theorem pay6_apply (a b x : Vec F S511x512 .f32) (j : S511x512.Idx) : k0_pay6 (k0_pay5 a) b x j = tap (a j) (b j) (x j) := by
  unfold k0_pay6 k0_pay5; simp only [shapeCast_self]; rfl
theorem pay7_apply (a b x : Vec F S1x512 .f32) (j : S1x512.Idx) : k0_pay7 a b x j = tap (a j) (b j) (x j) := by
  unfold k0_pay7; simp only [shapeCast_self]; rfl
theorem pay8_apply (b a x : Vec F S1x512 .f32) (j : S1x512.Idx) : k0_pay8 b a x j = tap (a j) (b j) (x j) := by
  unfold k0_pay8; simp only [shapeCast_self]; rfl
/-- The two conditional stores put back what was loaded. -/
theorem pay1_eq (x : Vec F S1x512 .f32) : k0_pay1 x = x := by unfold k0_pay1; simp only [shapeCast_self]
theorem pay2_eq (x : Vec F S1x512 .f32) : k0_pay2 x = x := by unfold k0_pay2; simp only [shapeCast_self]

/-! ## The stores, newest first -/

/-- The four unconditional stores of device `c`, its block being `x` and its halo rows `h`. -/
abbrev stores (x : Block F) (h : Rows F) : List (View.Piece (Elt F) S1024x512 .f32) :=
  [⟨rowsR 1023 S1x512.size inb_S1024x512_S1x512_1023_0, k0_pay8
      (hM.view.readAt (Elt F) (Rect.unit (s := S2x512) ![1, 0] S1x512.size inb_S2x512_S1x512_1_0).toLoadRect h)
      (xM.view.readAt (Elt F) (rowsR 1022 S1x512.size inb_S1024x512_S1x512_1022_0).toLoadRect x)
      (xM.view.readAt (Elt F) (rowsR 1023 S1x512.size inb_S1024x512_S1x512_1023_0).toLoadRect x)⟩,
    ⟨rowsR 0 S1x512.size inb_S1024x512_S1x512_0_0, k0_pay7
      (hM.view.readAt (Elt F) (Rect.unit (s := S2x512) ![0, 0] S1x512.size inb_S2x512_S1x512_0_0).toLoadRect h)
      (xM.view.readAt (Elt F) (rowsR 1 S1x512.size inb_S1024x512_S1x512_1_0).toLoadRect x)
      (xM.view.readAt (Elt F) (rowsR 0 S1x512.size inb_S1024x512_S1x512_0_0).toLoadRect x)⟩,
    ⟨rowsR 512 S511x512.size inb_S1024x512_S511x512_512_0, k0_pay6
      (k0_pay5 (xM.view.readAt (Elt F) (rowsR 511 S511x512.size inb_S1024x512_S511x512_511_0).toLoadRect x))
      (xM.view.readAt (Elt F) (rowsR 513 S511x512.size inb_S1024x512_S511x512_513_0).toLoadRect x)
      (xM.view.readAt (Elt F) (rowsR 512 S511x512.size inb_S1024x512_S511x512_512_0).toLoadRect x)⟩,
    ⟨rowsR 1 S511x512.size inb_S1024x512_S511x512_1_0, k0_pay4
      (k0_pay3 (xM.view.readAt (Elt F) (rowsR 0 S511x512.size inb_S1024x512_S511x512_0_0).toLoadRect x))
      (xM.view.readAt (Elt F) (rowsR 2 S511x512.size inb_S1024x512_S511x512_2_0).toLoadRect x)
      (xM.view.readAt (Elt F) (rowsR 1 S511x512.size inb_S1024x512_S511x512_1_0).toLoadRect x)⟩]

/-- The extra store of the first device (its row 0 put back) and of the last (its row 1023 put back). -/
abbrev keepFirst (x : Block F) : View.Piece (Elt F) S1024x512 .f32 :=
  ⟨rowsR 0 S1x512.size inb_S1024x512_S1x512_0_0, k0_pay1 (xM.view.readAt (Elt F) (rowsR 0 S1x512.size inb_S1024x512_S1x512_0_0).toLoadRect x)⟩
abbrev keepLast (x : Block F) : View.Piece (Elt F) S1024x512 .f32 :=
  ⟨rowsR 1023 S1x512.size inb_S1024x512_S1x512_1023_0, k0_pay2 (xM.view.readAt (Elt F) (rowsR 1023 S1x512.size inb_S1024x512_S1x512_1023_0).toLoadRect x)⟩

omit [FloatOps F] in
/-- What a list of stores through the result's staging buffer leaves at `i`: the newest store's payload if `i` is among
    its rows, -/
theorem store_hit (g : Block F) (o : ℕ) (size : Fin 2 → ℕ) (inb) (w : (rowsR o size inb).shape.Idx → Elt F .f32) (L) (i : S1024x512.Idx)
    (j : (⟨2, size⟩ : Shape).Idx) (h0 : (i 0).val = o + (j 0).val) (h1 : (i 1).val = (j 1).val) :
    oM.view.writes (Elt F) g (⟨rowsR o size inb, w⟩ :: L) i = w j :=
  View.read_writes_cons_rows_of_mem oM.view g inb w L i j rfl h0 h1

omit [FloatOps F] in
/-- and what the earlier stores left otherwise. -/
theorem store_miss (g : Block F) (o : ℕ) (size : Fin 2 → ℕ) (inb) (w : (rowsR o size inb).shape.Idx → Elt F .f32) (L) (i : S1024x512.Idx)
    (h : (i 0).val < o ∨ o + size 0 ≤ (i 0).val) :
    oM.view.writes (Elt F) g (⟨rowsR o size inb, w⟩ :: L) i = oM.view.writes (Elt F) g L i :=
  View.read_writes_cons_rows_of_not_mem oM.view g inb w L i rfl rfl h

/-- The four stores leave the filter at every element, whatever the buffer held. -/
theorem stores_at (c : Dev nD) (g : Block F) (i : S1024x512.Idx) :
    oM.view.writes (Elt F) g (stores (X c) (haloOf X c)) i = tap (above X c i) (below X c i) (X c i) := by
  have hi : (i 0).val < 1024 := (i 0).isLt
  have hl : (i 1).val < 512 := (i 1).isLt
  by_cases hlast : (i 0).val = 1023
  · rw [store_hit g 1023 S1x512.size _ _ _ i (ix2 0 (i 1)) hlast rfl, pay8_apply]
    congr 1
    · unfold above; rw [if_neg (by omega)]
      exact load_rows _ _ _ _ _ _ (by show (i 0).val - 1 = 1022 + 0; omega) rfl
    · unfold below; rw [dif_neg (by omega)]
      exact (load_halo _ 1 _ _ (ix2 1 (i 1)) rfl rfl).trans (if_neg Nat.one_ne_zero)
    · exact load_rows _ _ _ _ _ _ hlast rfl
  rw [store_miss g 1023 S1x512.size _ _ _ i (Or.inl (by omega))]
  by_cases hfirst : (i 0).val = 0
  · rw [store_hit g 0 S1x512.size _ _ _ i (ix2 0 (i 1)) hfirst rfl, pay7_apply]
    congr 1
    · unfold above; rw [if_pos hfirst]
      exact (load_halo _ 0 _ _ (ix2 0 (i 1)) rfl rfl).trans (if_pos rfl)
    · unfold below; rw [dif_pos (by omega)]
      exact load_rows _ _ _ _ _ _ (by show (i 0).val + 1 = 1 + 0; omega) rfl
    · exact load_rows _ _ _ _ _ _ hfirst rfl
  rw [store_miss g 0 S1x512.size _ _ _ i (Or.inr (by show 0 + 1 ≤ _; omega))]
  have ha : above X c i = at2 (X c) ((i 0).val - 1) (by omega) (i 1) := if_neg hfirst
  have hb : below X c i = at2 (X c) ((i 0).val + 1) (by omega) (i 1) := dif_pos (by omega)
  rw [ha, hb]
  by_cases hhalf : 512 ≤ (i 0).val
  · rw [store_hit g 512 S511x512.size _ _ _ i (ix2 ⟨(i 0).val - 512, by omega⟩ (i 1)) (by show _ = 512 + ((i 0).val - 512); omega) rfl, pay6_apply]
    congr 1 <;> refine load_rows _ _ _ _ _ _ ?_ rfl
    · show (i 0).val - 1 = 511 + ((i 0).val - 512); omega
    · show (i 0).val + 1 = 513 + ((i 0).val - 512); omega
    · show (i 0).val = 512 + ((i 0).val - 512); omega
  · rw [store_miss g 512 S511x512.size _ _ _ i (Or.inl (by omega)),
      store_hit g 1 S511x512.size _ _ _ i (ix2 ⟨(i 0).val - 1, by omega⟩ (i 1)) (by show _ = 1 + ((i 0).val - 1); omega) rfl, pay4_apply]
    congr 1 <;> refine load_rows _ _ _ _ _ _ ?_ rfl
    · show (i 0).val - 1 = 0 + ((i 0).val - 1); omega
    · show (i 0).val + 1 = 2 + ((i 0).val - 1); omega
    · show (i 0).val = 1 + ((i 0).val - 1); omega

/-- On a device at neither end of the array the four stores leave the device's block of the result. -/
theorem out_middle (c : Dev nD) (h0 : c ≠ 0) (h3 : c ≠ 3) (g : Block F) :
    oM.view.writes (Elt F) g (stores (X c) (haloOf X c)) = outOf X c := by
  funext i
  refine (stores_at X c g i).trans (if_neg ?_).symm
  rintro (⟨h, _⟩ | ⟨h, _⟩)
  exacts [h0 h, h3 h]

/-- On the first device the extra store puts row 0 back. -/
theorem out_first (c : Dev nD) (hc : c = 0) (g : Block F) :
    oM.view.writes (Elt F) g (keepFirst (X c) :: stores (X c) (haloOf X c)) = outOf X c := by
  funext i
  unfold outOf
  by_cases h : (i 0).val = 0
  · rw [if_pos (show Kept c i from Or.inl ⟨hc, h⟩), store_hit g 0 S1x512.size _ _ _ i (ix2 0 (i 1)) h rfl, pay1_eq]
    exact load_rows _ _ _ _ _ _ h rfl
  · rw [store_miss g 0 S1x512.size _ _ _ i (Or.inr (by show 0 + 1 ≤ _; omega)), stores_at, if_neg]
    rintro (⟨_, h'⟩ | ⟨h', _⟩)
    · exact h h'
    · rw [hc] at h'; exact absurd h' (by decide)

/-- On the last device the extra store puts row 1023 back. -/
theorem out_last (c : Dev nD) (hc : c = 3) (g : Block F) :
    oM.view.writes (Elt F) g (keepLast (X c) :: stores (X c) (haloOf X c)) = outOf X c := by
  funext i
  have hi : (i 0).val < 1024 := (i 0).isLt
  unfold outOf
  by_cases h : (i 0).val = 1023
  · rw [if_pos (show Kept c i from Or.inr ⟨hc, h⟩), store_hit g 1023 S1x512.size _ _ _ i (ix2 0 (i 1)) h rfl, pay2_eq]
    exact load_rows _ _ _ _ _ _ h rfl
  · rw [store_miss g 1023 S1x512.size _ _ _ i (Or.inl (by omega)), stores_at, if_neg]
    rintro (⟨h', _⟩ | ⟨_, h'⟩)
    · rw [hc] at h'; exact absurd h' (by decide)
    · exact h h'

/-! ## What a landing leaves -/

omit [FloatOps F] in
/-- A side's transfer into device `c` writes, over whatever its halo row held, that row of `haloOf X c`: the sender is the
    neighbour on the other side. -/
theorem landing (b : Bool) (c : Dev nD) (h : Rows F) (i : S2x512.Idx) (hi : i ∈ (haloM b).view.set) :
    (haloM b).view.write (Elt F) h ((edgeM b).view.read (Elt F) (X (peer (!b) c))) Finset.univ i = haloOf X c i := by
  obtain ⟨j, -, rfl⟩ := Finset.mem_map.mp hi
  rw [View.write_emb_of_mem _ _ (Finset.mem_univ _)]
  have hj : (j 0).val < 1 := (j 0).isLt
  cases b
  · refine Eq.trans ?_ (if_pos (show 0 + 1 * (j 0).val = 0 by omega)).symm
    refine congrArg (X (prv c)) (funext (Fin.forall_fin_two.mpr ⟨Fin.ext ?_, Fin.ext ?_⟩))
    · show 1023 + 1 * (j 0).val = 1023; omega
    · rfl
  · refine Eq.trans ?_ (if_neg (show ¬ 1 + 1 * (j 0).val = 0 by omega)).symm
    refine congrArg (X (nxt c)) (funext (Fin.forall_fin_two.mpr ⟨Fin.ext ?_, Fin.ext ?_⟩))
    · show 0 + 1 * (j 0).val = 0; omega
    · rfl

end Cert.Halo

end
-- ==== Proof.Protocol.lean ====
/-
The exchange as a protocol: what each semaphore's units stand for, what each device owes and may wait for, and what it
holds before and after its body.

Every semaphore is used for one round. A device's barrier semaphore gets one unit from each neighbour; the unit of the
neighbour on side `b` hands over that neighbour's halo row `b`, so that after its wait for two a device may write both
rows. The transfer towards side `b` then carries the edge row there; its send semaphore gives the lent edge row back, its
receive semaphore gives the receiver its halo row filled.
-/
module

public import proofs.«01_k».proof.Proof.Contents

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## The resources: the pipeline library's rounds beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

-- the devices' blocks of `x`
variable (X : Dev nD → Block F)

/-! ## The rows that change hands -/

/-- Halo row `b` of device `c`, holding that row of `h`. -/
def haloPts (b : Bool) (c : Dev nD) (h : Rows F) : sProp 𝕄 :=
  (haloM b).view.loc (c : Thread nD τ) ↦[(haloM b).view.set]{fullShare} h

/-- Edge row `b` of device `c`'s block, at the half that is lent: the other half stays with the device, whose body
    loads the row while the transfer reads it. -/
def edgePts (b : Bool) (c : Dev nD) : sProp 𝕄 :=
  (edgeM b).view.loc (c : Thread nD τ) ↦[(edgeM b).view.set]{fullShare.left} X c

/-- The whole halo buffer of device `c`. -/
abbrev haloAll (c : Dev nD) (h : Rows F) : sProp 𝕄 := ((c : Thread nD τ).loc cc0_scratch0) ↦{fullShare} h

omit [FloatOps F] in
instance haloPts_storable (b : Bool) (c : Dev nD) (h : Rows F) : BI.Storable (upEmb : UEmb _ 𝕄) (haloPts b c h) := by
  unfold haloPts; infer_instance
omit [FloatOps F] in
instance edgePts_storable (b : Bool) (c : Dev nD) : BI.Storable (upEmb : UEmb _ 𝕄) (edgePts X b c) := by
  unfold edgePts; infer_instance

omit [FloatOps F] in
/-- The halo buffer is its two rows. -/
theorem halo_rows (c : Dev nD) (h : Rows F) : (haloAll c h : sProp 𝕄) ⊣⊢ iprop(haloPts false c h ∗ haloPts true c h) := by
  unfold haloAll haloPts
  rw [← halo_cover]
  exact pointsTo_union halo_disjoint

omit [FloatOps F] in
/-- A block held whole is the right half, whole, and of the left half the two edge rows and the rest. -/
theorem block_lend (c : Dev nD) :
    (((c : Thread nD τ).loc cc0_stg0_0) ↦{fullShare} X c : sProp 𝕄)
      ⊣⊢ iprop((edgePts X false c ∗ edgePts X true c
          ∗ (((c : Thread nD τ).loc cc0_stg0_0) ↦[(Finset.univ \ (edgeM false).view.set) \ (edgeM true).view.set]{fullShare.left} X c))
        ∗ (((c : Thread nD τ).loc cc0_stg0_0) ↦{fullShare.right} X c)) := by
  unfold edgePts
  refine (pointsTo_share (PosShare.mem_left_op_right fullShare)).trans (sep_congr_left ?_)
  refine (pointsTo_split_subset (Finset.subset_univ (edgeM false).view.set)).trans (sep_congr_right ?_)
  exact pointsTo_split_subset edge_disjoint

/-! ## The rounds -/

/-- What the neighbour on side `b` hands device `c` with its barrier unit: its own halo row `b`, and that it is at the
    start of that row's receive semaphore. -/
def barPay (b : Bool) (c : Dev nD) : sProp 𝕄 :=
  iprop((∃ h, haloPts b (peer b c) h) ∗ reached ER (recvCell b (peer b c)) 0)

/-- What the completion on a transfer semaphore of device `c` hands it: the filled halo row, or the edge row lent. -/
def xferPay (s : DmaSem sig) (c : Dev nD) : sProp 𝕄 :=
  if s = recvS false then haloPts false c (haloOf X c) else if s = recvS true then haloPts true c (haloOf X c)
  else if s = sendS false then edgePts X false c else if s = sendS true then edgePts X true c else iprop(emp)

/-- One round per semaphore: a barrier's has a unit of each side, a transfer semaphore's one row's credit. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ b := match g.2 with | .reg _ => barPay b g.1.1 | .dma s => xferPay X s g.1.1
  amount_pos g _ _ _ := by
    rcases g with ⟨_, _ | _⟩
    · exact Nat.one_pos
    · exact N_pos

omit [FloatOps F] in
instance barPay_storable (b : Bool) (c : Dev nD) : BI.Storable (upEmb : UEmb _ 𝕄) (barPay b c) := by unfold barPay; infer_instance
omit [FloatOps F] in
instance xferPay_storable (s : DmaSem sig) (c : Dev nD) : BI.Storable (upEmb : UEmb _ 𝕄) (xferPay X s c) := by
  unfold xferPay; (repeat' split) <;> infer_instance
omit [FloatOps F] in
instance sched_storable (g : GSem nD τ sig) (r : ℕ) (b : Bool) : BI.Storable (upEmb : UEmb _ 𝕄) ((sched X).payload g r b) := by
  rcases g with ⟨t, s | s⟩
  · exact barPay_storable b t.1
  · exact xferPay_storable X s t.1

omit [FloatOps F] in
theorem payload_recv (b d : Bool) (c : Dev nD) : (sched X).payload (recvCell b c) 0 d = haloPts b c (haloOf X c) := by
  show xferPay X (recvS b) c = _
  unfold xferPay
  cases b
  · exact if_pos rfl
  · rw [if_neg (fun h => Bool.noConfusion (recv_inj h)), if_pos rfl]
omit [FloatOps F] in
theorem payload_send (b d : Bool) (c : Dev nD) : (sched X).payload (sendCell b c) 0 d = edgePts X b c := by
  show xferPay X (sendS b) c = _
  unfold xferPay
  rw [if_neg (send_ne_recv b false), if_neg (send_ne_recv b true)]
  cases b
  · exact if_pos rfl
  · rw [if_neg (fun h => Bool.noConfusion (send_inj h)), if_pos rfl]

omit [FloatOps F] in
theorem duties_xfer (s : DmaSem sig) (c : Dev nD) : (sched X).duties ((c : Thread nD τ), .dma s) 0 = {false} := by
  dsimp only [sched]; exact if_pos rfl
omit [FloatOps F] in
theorem duties_bar (c : Dev nD) : (sched X).duties (barCell c) 0 = Finset.univ := by
  dsimp only [sched]; exact if_pos rfl
omit [FloatOps F] in
/-- There is no round after the first. -/
theorem duties_later (g : GSem nD τ sig) : ∀ r, 1 ≤ r → (sched X).duties g r = ∅ := fun r hr => if_neg (by omega)

omit [FloatOps F] in
theorem expect_bar (c : Dev nD) : (sched X).expect (barCell c) 0 = 2 := by
  unfold Schedule.expect Schedule.amountOf
  rw [duties_bar]; rfl
omit [FloatOps F] in
theorem expect_xfer (s : DmaSem sig) (c : Dev nD) : (sched X).expect ((c : Thread nD τ), .dma s) 0 = N := by
  unfold Schedule.expect Schedule.amountOf
  rw [duties_xfer, Finset.sum_singleton]; rfl

omit [FloatOps F] in
/-- The whole of a barrier's round: both neighbours' halo rows. -/
theorem rest_bar (c : Dev nD) :
    bigSep ((sched X).duties (barCell c) 0 \ ∅) (fun b => (sched X).payload (barCell c) 0 b) = iprop(barPay false c ∗ barPay true c) := by
  rw [Finset.sdiff_empty, duties_bar, bigSep_univ_eq_bigSepL [false, true] (by decide) (by decide)]; rfl
omit [FloatOps F] in
theorem rest_recv (b : Bool) (c : Dev nD) :
    bigSep ((sched X).duties (recvCell b c) 0 \ ∅) (fun d => (sched X).payload (recvCell b c) 0 d) = haloPts b c (haloOf X c) := by
  rw [Finset.sdiff_empty, duties_xfer, bigSep_singleton, payload_recv]
omit [FloatOps F] in
theorem rest_send (b : Bool) (c : Dev nD) :
    bigSep ((sched X).duties (sendCell b c) 0 \ ∅) (fun d => (sched X).payload (sendCell b c) 0 d) = edgePts X b c := by
  rw [Finset.sdiff_empty, duties_xfer, bigSep_singleton, payload_send]

/-! ## What a device owes, and the levels -/

/-- Between its barrier signals and its transfers a device owes the two receive semaphores it sends to; -/
def owedSends (c : Dev nD) : CellTallies nD τ sig Unit :=
  tallyAt (recvCell true (prv c)) () N + tallyAt (recvCell false (nxt c)) () N
/-- after its first signal also the right neighbour's barrier; -/
def owedOne (c : Dev nD) : CellTallies nD τ sig Unit := owedSends c + tallyAt (barCell (nxt c)) () 1
/-- at the start also the left neighbour's. -/
def owedAll (c : Dev nD) : CellTallies nD τ sig Unit := owedOne c + tallyAt (barCell (prv c)) () 1

/-- Every cell of a core is at one index, and its level is by its kind: barriers below receives, the rest below both. -/
def L (g : GSem nD τ sig) : Finset Unit := if g.1.2 = .tc then {()} else ∅
def lv (g : GSem nD τ sig) (_ : Unit) : ℕ :=
  match g.2 with | .reg _ => 1 | .dma s => if s = recvS false ∨ s = recvS true then 2 else 0

theorem L_tc (c : Dev nD) (s : SemLoc sig) : L ((c : Thread nD τ), s) = {()} := if_pos rfl
theorem lv_recv (b : Bool) (c : Dev nD) : lv (recvCell b c) () = 2 := if_pos (by cases b; exacts [Or.inl rfl, Or.inr rfl])

/-- A positive tally at a cell is at that cell. -/
theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedSends_pos {c : Dev nD} {g : GSem nD τ sig} {u : Unit} (h : 0 < owedSends c g u) : ∃ b c', g = recvCell b c' := by
  unfold owedSends at h
  rw [Pi.add_apply, Finsupp.add_apply] at h
  rcases Nat.add_pos_iff_pos_or_pos.mp h with h | h
  exacts [⟨true, _, tallyAt_pos h⟩, ⟨false, _, tallyAt_pos h⟩]

theorem owedAll_pos {c : Dev nD} {g : GSem nD τ sig} {u : Unit} (h : 0 < owedAll c g u) :
    (∃ b c', g = recvCell b c') ∨ ∃ c', g = barCell c' := by
  unfold owedAll owedOne at h
  rw [Pi.add_apply, Finsupp.add_apply, Pi.add_apply, Finsupp.add_apply] at h
  rcases Nat.add_pos_iff_pos_or_pos.mp h with h | h
  · rcases Nat.add_pos_iff_pos_or_pos.mp h with h | h
    exacts [Or.inl (owedSends_pos h), Or.inr ⟨_, tallyAt_pos h⟩]
  · exact Or.inr ⟨_, tallyAt_pos h⟩

omit [FloatOps F] in
/-- A wait on a semaphore that is no receive semaphore of the exchange is below everything owed. -/
theorem mayWait_low (c : Dev nD) (q : DmaSem sig) (hq : ∀ b, q ≠ recvS b) :
    (levAts L lv : sProp 𝕄) ⊢ MayWait (c : Thread nD τ) (.dma q) () (owedAll c) :=
  MayOwe.of_cut (L := L) (lev := lv) 0 (fun p hp => by rw [Finset.mem_singleton.mp hp, L_tc]; exact Finset.mem_singleton_self _)
    (fun g u hg => by rcases owedAll_pos hg with ⟨b, c', rfl⟩ | ⟨c', rfl⟩ <;> exact Finset.mem_singleton_self _)
    (fun p hp => by
      rw [Finset.mem_singleton.mp hp]
      exact Nat.le_of_eq (if_neg (by rintro (h | h); exacts [hq _ h, hq _ h])))
    (fun g u hg => by
      rcases owedAll_pos hg with ⟨b, c', rfl⟩ | ⟨c', rfl⟩
      · rw [lv_recv]; exact Nat.two_pos
      · exact Nat.one_pos)

omit [FloatOps F] in
/-- At its barrier wait a device owes receive semaphores only, which are above. -/
theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨b, c', rfl⟩ := owedSends_pos hg; exact Finset.mem_singleton_self _)
    (fun p hp => by rw [Finset.mem_singleton.mp hp]; exact Nat.le_refl 1)
    (fun g u hg => by obtain ⟨b, c', rfl⟩ := owedSends_pos hg; rw [lv_recv]; exact Nat.one_lt_two)

/-! ## What a device holds -/

/-- The kinds of semaphore of a device: the barrier, a side's send (`false`) and a side's receive (`true`). -/
abbrev Role : Type := Option (Bool × Bool)
abbrev roleSem : Role → SemLoc sig
  | none => .reg barS
  | some (false, b) => .dma (sendS b)
  | some (true, b) => .dma (recvS b)
abbrev cell (p : Dev nD × Role) : GSem nD τ sig := ((p.1 : Thread nD τ), roleSem p.2)

/-- Known of every cell of the exchange, under the names `K`: its invariant, and that its round 0 is reached. -/
def known (K : Dev nD × Role → ℕ) : sProp 𝕄 :=
  iprop((bigSep Finset.univ fun p => cellInv ER (sched X) (K p) (cell p)) ∗ bigSep Finset.univ fun p => reached ER (cell p) 0)

omit [FloatOps F] in
instance known_persistent (K : Dev nD × Role → ℕ) : BI.Persistent (known X K) := by unfold known; infer_instance

omit [FloatOps F] in
theorem known_inv (K : Dev nD × Role → ℕ) (p : Dev nD × Role) : known X K ⊢ cellInv ER (sched X) (K p) (cell p) := by
  unfold known
  exact sep_elim_left.trans (bigSep_elim (Finset.mem_univ p))
omit [FloatOps F] in
theorem known_reached (K : Dev nD × Role → ℕ) (p : Dev nD × Role) : known X K ⊢ reached ER (cell p) 0 := by
  unfold known
  exact sep_elim_right.trans (bigSep_elim (Finset.mem_univ p))

/-- The tokens of the duties a device pays on a side: the barrier unit that hands over its own halo row (to the neighbour
    that will write it), the landing at the neighbour it sends to, and its own send. -/
def sideToks (b : Bool) (c : Dev nD) : sProp 𝕄 :=
  iprop(dutyTok ER (barCell (peer (!b) c)) 0 b ∗ dutyTok ER (recvCell b (peer b c)) 0 false ∗ dutyTok ER (sendCell b c) 0 false)

/-- A device's positions at the start of its five semaphores. -/
def atStart (c : Dev nD) : sProp 𝕄 := bigSep Finset.univ fun r : Role => atPos ER (cell (c, r)) 0 ∅ 0

/-- The exchange's ghost state of device `c`. -/
def ghost (K : Dev nD × Role → ℕ) (c : Dev nD) : sProp 𝕄 :=
  iprop(known X K ∗ atStart c ∗ sideToks false c ∗ sideToks true c)

/-- The credit a device waits with: two units of its barrier, a row of each receive semaphore. -/
def credits (c : Dev nD) : sProp 𝕄 :=
  iprop(cred (tallyAt (barCell c) () 2) ∗ cred (tallyAt (recvCell false c) () N) ∗ cred (tallyAt (recvCell true c) () N))

/-- What the launch gives the body of device `c`, its buffers aside. -/
def start (c : Dev nD) : sProp 𝕄 := iprop((∃ K, ghost X K c) ∗ credits c ∗ levAts L lv)

omit [FloatOps F] in
/-- A statement over the five roles, one by one. -/
theorem bigSep_roles (Φ : Role → sProp 𝕄) : bigSep Finset.univ Φ
    = iprop(Φ none ∗ Φ (some (false, false)) ∗ Φ (some (false, true)) ∗ Φ (some (true, false)) ∗ Φ (some (true, true))) :=
  bigSep_univ_eq_bigSepL [none, some (false, false), some (false, true), some (true, false), some (true, true)] (by decide) (by decide) Φ

/-- Before the body: the start, and the halo buffer holding anything; -/
def before (c : Dev nD) : sProp 𝕄 := iprop(start X c ∗ ∃ h, haloAll c h)
/-- after it: the halo buffer, and the device's five semaphores at zero. -/
def afterwards (c : Dev nD) : sProp 𝕄 := iprop((∃ h, haloAll c h) ∗ bigSep Finset.univ fun r : Role => semVal (cell (c, r)) 0)

end Cert.Halo

end
-- ==== Proof.Steps.lean ====
/-
The exchange's steps, each for one side: a barrier signal, the barrier wait, a transfer, and the waits on its two
semaphores — what each needs and what the device holds after it.
-/
module

public import proofs.«01_k».proof.Proof.Protocol

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F) (K : Dev nD × Role → ℕ)

/-- No loop of the body decreases a variant. -/
abbrev 𝒱₀ : Variants := Variants.none

/-- The program `p` run by device `c`, to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- What a device hands the neighbour that will write its halo row `b`: that row. -/
theorem payload_bar_own (b : Bool) (c : Dev nD) : (sched X).payload (barCell (peer (!b) c)) 0 b
    = iprop((∃ h, haloPts b c h) ∗ reached ER (recvCell b c) 0) := by
  show barPay b (peer (!b) c) = _
  unfold barPay
  rw [peer_peer_not]

/-- The signal that hands the device's own halo row `b` to the neighbour that will write it. -/
theorem signal_step {α : Type} {Q : α → sProp 𝕄} {k : PUnit → Prog (TpuEff nD τ sig (Elt F) Λ₀ .tc) α}
    (b : Bool) (c n : Dev nD) (hn : n = peer (!b) c) {k' : ℕ} (hk : 1 = k') {O₁ : CellTallies nD τ sig Unit}
    (O : CellTallies nD τ sig Unit) (hO : O₁ = O + tallyAt (barCell (peer (!b) c)) () 1) (W : Waits sig Unit) (h : Rows F) :
    iprop(known X K ∗ owes (c : Thread nD τ) O₁ W ∗ dutyTok ER (barCell (peer (!b) c)) 0 b ∗ haloPts b c h)
      ⊢ iprop((owes (c : Thread nD τ) O W -∗ runs c (k ⟨⟩) Q) -∗ runs c (.op (.semSignal (n : Thread nD τ) barS k') k) Q) := by
  subst hn hk
  iintro ⟨#HK, HO, Ht, Hh⟩
  iapply (Rounds.wp_signal 𝒱₀ ER (sched X) (c : Thread nD τ) none (dst := (peer (!b) c : Thread nD τ)) (κ := K (peer (!b) c, none))
      (d := b) (by rw [duties_bar]; exact Finset.mem_univ _) rfl () O hO) $$ [HO Ht Hh]
  isplitr; · iapply (known_inv X K (peer (!b) c, none)); iexact HK
  isplitl [HO]; · iexact HO
  isplitl [Ht]; · iexact Ht
  isplitl [Hh]
  · rw [payload_bar_own]
    isplitl [Hh]; · iexists h; iexact Hh
    iapply (known_reached X K (c, some (true, b))); iexact HK
  iapply (known_reached X K (peer (!b) c, none)); iexact HK

/-- The wait for both barrier units: both neighbours' halo rows. -/
theorem barrier_step {α : Type} {Q : α → sProp 𝕄} {k : PUnit → Prog (TpuEff nD τ sig (Elt F) Λ₀ .tc) α}
    (c : Dev nD) {k' : ℕ} (hk : 2 = k') (W : Waits sig Unit) :
    iprop(known X K ∗ cred (tallyAt (barCell c) () 2) ∗ owes (c : Thread nD τ) (owedSends c) W ∗ levAts L lv ∗ atPos ER (barCell c) 0 ∅ 0)
      ⊢ iprop(((owes (c : Thread nD τ) (owedSends c) (insert (SemLoc.reg barS, ()) W) ∗ atPos ER (barCell c) (0 + 1) ∅ 0
            ∗ (∃ h, haloPts false (nxt c) h) ∗ (∃ h, haloPts true (prv c) h)) -∗ runs c (k ⟨⟩) Q)
          -∗ runs c (.op (.semWait barS k') k) Q) := by
  subst hk
  iintro ⟨#HK, Hc, HO, #Hl, Hp⟩ Hk
  iapply (Rounds.wp_wait_rest_token 𝒱₀ ER (sched X) (c : Thread nD τ) none (κ := K (c, none))
      (wpE_semWait_eq 𝒱₀ (c : Thread nD τ) none Set.univ) (Set.mem_univ _) () (O := owedSends c) (W := W) (R := 0) (m := 0) (T := ∅)
      (by rw [expect_bar])) $$ [Hc HO Hp]
  · isplitr; · iapply (known_inv X K (c, none)); iexact HK
    isplitl [Hc]; · iexact Hc
    isplitl [HO]; · iexact HO
    isplitr; · iapply (mayWait_bar c); iexact Hl
    iexact Hp
  iintro ⟨HO, Hp, -, Hpay⟩
  ihave Hr := (Entails.of_eq (rest_bar X c)) $$ Hpay
  unfold barPay
  icases Hr with ⟨⟨Hf, -⟩, ⟨Ht, -⟩⟩
  iapply Hk
  isplitl [HO]; · iexact HO
  isplitl [Hp]; · iexact Hp
  isplitl [Hf]; · iexact Hf
  iexact Ht

/-- The transfer towards side `b`: the lent edge row to the neighbour's halo row, whatever that held. -/
theorem send_step {α : Type} {Q : α → sProp 𝕄} {k : PUnit → Prog (TpuEff nD τ sig (Elt F) Λ₀ .tc) α}
    (b : Bool) (c n : Dev nD) (hn : n = peer b c)
    {hsc : (haloM b : Memref sig (Dev.tc n : Thread nD τ).2.kind .vmem S1x512 .f32).view.ref.isScScratch = false}
    {hsrc : (edgeM b).view.WordExact} {hdst : (haloM b).view.WordExact}
    {hsem : DmaTarget.Typed .vmem (.dma (recvS b)) (.remote (Dev.tc n : Thread nD τ) (haloM b) (.dma (sendS b)) hsc)}
    {O₁ : CellTallies nD τ sig Unit} (O : CellTallies nD τ sig Unit) (hO : O₁ = O + tallyAt (recvCell b (peer b c)) () N)
    (W : Waits sig Unit) (h : Rows F) :
    iprop(known X K ∗ edgePts X b c ∗ haloPts b (peer b c) h ∗ owes (c : Thread nD τ) O₁ W
        ∗ dutyTok ER (recvCell b (peer b c)) 0 false ∗ dutyTok ER (sendCell b c) 0 false)
      ⊢ iprop(((cred (tallyAt (sendCell b c) () N) ∗ owes (c : Thread nD τ) O W) -∗ runs c (k ⟨⟩) Q)
          -∗ runs c (.op (.enqueueDma (edgeM b) (.remote (Dev.tc n : Thread nD τ) (haloM b) (.dma (sendS b)) hsc) (.dma (recvS b)) hsrc hdst hsem) k) Q) := by
  subst hn
  iintro ⟨#HK, He, Hh, HO, Htr, Hts⟩
  unfold edgePts haloPts
  iapply (Rounds.wp_send_pointsTo 𝒱₀ ER (sched X) (c : Thread nD τ) none (κ₁ := K (c, some (false, b))) (κ₂ := K (peer b c, some (true, b)))
    (r₁ := 0) (r₂ := 0) (d₁ := false) (d₂ := false) (fd := h)
    (by rw [duties_xfer]; exact Finset.mem_singleton_self _) (by rw [duties_xfer]; exact Finset.mem_singleton_self _)
    () () N (show (haloM b).view.amount (.dma (recvS b)) = N from halo_credit b) rfl rfl O hO (W := W)
    (by rw [payload_send]; exact BI.Entails.refl _)
    (by
      rw [payload_recv]; unfold haloPts
      refine Entails.of_eq (pointsTo_congr fun i hi => ?_)
      have hl := landing X b (peer b c) h i hi
      rw [peer_not_peer] at hl
      exact hl)) $$ [He Hh HO Htr Hts]
  isplitr; · iapply (known_inv X K (c, some (false, b))); iexact HK
  isplitr; · iapply (known_inv X K (peer b c, some (true, b))); iexact HK
  isplitl [He]; · iexact He
  isplitl [Hh]; · iexact Hh
  isplitl [HO]; · iexact HO
  isplitl [Hts]; · iexact Hts
  isplitr; · iapply (known_reached X K (c, some (false, b))); iexact HK
  isplitl [Htr]; · iexact Htr
  iapply (known_reached X K (peer b c, some (true, b))); iexact HK

/-- The wait on a side's send semaphore: the edge row lent is back. -/
theorem sent_step {α : Type} {Q : α → sProp 𝕄} {k : PUnit → Prog (TpuEff nD τ sig (Elt F) Λ₀ .tc) α}
    (b : Bool) (c : Dev nD) {src : Memref sig .tc .vmem S1x512 .f32} {hsrc : src.view.WordExact} {hdst : (edgeM b).view.WordExact} (W : Waits sig Unit) :
    iprop(known X K ∗ cred (tallyAt (sendCell b c) () N) ∗ owes (c : Thread nD τ) 0 W ∗ atPos ER (sendCell b c) 0 ∅ 0)
      ⊢ iprop(((owes (c : Thread nD τ) 0 (insert (SemLoc.dma (sendS b), ()) W) ∗ atPos ER (sendCell b c) (0 + 1) ∅ 0 ∗ edgePts X b c) -∗ runs c (k ⟨⟩) Q)
          -∗ runs c (.op (.waitDma2 (sendS b) src (edgeM b) hsrc hdst) k) Q) := by
  iintro ⟨#HK, Hc, HO, Hp⟩ Hk
  iapply (Rounds.wp_wait_rest_token 𝒱₀ ER (sched X) (c : Thread nD τ) none (κ := K (c, some (false, b)))
      (wpE_waitDma2_eq 𝒱₀ (c : Thread nD τ) none Set.univ) (Set.mem_univ _) () (O := 0) (W := W) (R := 0) (m := 0) (T := ∅)
      (by rw [Nat.zero_add, expect_xfer])) $$ [Hc HO Hp]
  · isplitr; · iapply (known_inv X K (c, some (false, b))); iexact HK
    isplitl [Hc]; · iexact Hc
    isplitl [HO]; · iexact HO
    isplitr; · rw [MayWait_zero]; iempintro
    iexact Hp
  iintro ⟨HO, Hp, -, Hpay⟩
  ihave He := (Entails.of_eq (rest_send X b c)) $$ Hpay
  iapply Hk
  isplitl [HO]; · iexact HO
  isplitl [Hp]; · iexact Hp
  iexact He

/-- The wait on a side's receive semaphore: the halo row is the device's again, filled. -/
theorem received_step {α : Type} {Q : α → sProp 𝕄} {k : PUnit → Prog (TpuEff nD τ sig (Elt F) Λ₀ .tc) α}
    (b : Bool) (c : Dev nD) {src : Memref sig .tc .vmem S1x512 .f32} {hsrc : src.view.WordExact} {hdst : (haloM b).view.WordExact} (W : Waits sig Unit) :
    iprop(known X K ∗ cred (tallyAt (recvCell b c) () N) ∗ owes (c : Thread nD τ) 0 W ∗ atPos ER (recvCell b c) 0 ∅ 0)
      ⊢ iprop(((owes (c : Thread nD τ) 0 (insert (SemLoc.dma (recvS b), ()) W) ∗ atPos ER (recvCell b c) (0 + 1) ∅ 0 ∗ haloPts b c (haloOf X c)) -∗ runs c (k ⟨⟩) Q)
          -∗ runs c (.op (.waitDma2 (recvS b) src (haloM b) hsrc hdst) k) Q) := by
  iintro ⟨#HK, Hc, HO, Hp⟩ Hk
  iapply (Rounds.wp_wait_rest_token 𝒱₀ ER (sched X) (c : Thread nD τ) none (κ := K (c, some (true, b)))
      (wpE_waitDma2_eq 𝒱₀ (c : Thread nD τ) none Set.univ) (Set.mem_univ _) () (O := 0) (W := W) (R := 0) (m := 0) (T := ∅)
      (by rw [Nat.zero_add, expect_xfer])) $$ [Hc HO Hp]
  · isplitr; · iapply (known_inv X K (c, some (true, b))); iexact HK
    isplitl [Hc]; · iexact Hc
    isplitl [HO]; · iexact HO
    isplitr; · rw [MayWait_zero]; iempintro
    iexact Hp
  iintro ⟨HO, Hp, -, Hpay⟩
  ihave He := (Entails.of_eq (rest_recv X b c)) $$ Hpay
  iapply Hk
  isplitl [HO]; · iexact HO
  isplitl [Hp]; · iexact Hp
  iexact He

omit [FloatOps F] in
/-- What the staging buffer holds before any store. -/
theorem no_stores (c : Dev nD) (g : Block F) :
    (((c : Thread nD τ).loc cc0_stg1_0) ↦{fullShare} g : sProp 𝕄)
      = (((c : Thread nD τ).loc cc0_stg1_0) ↦{fullShare} oM.view.writes (Elt F) g []) := rfl

/-- A store into the result's staging buffer, held at a list of stores: one more in front. -/
theorem store_step {α : Type} {Q : α → sProp 𝕄} {k : PUnit → Prog (TpuEff nD τ sig (Elt F) Λ₀ .tc) α}
    (c : Dev nD) (g : Block F) (L : List (View.Piece (Elt F) S1024x512 .f32)) (r : Rect S1024x512) {w : r.shape.Idx → Elt F .f32}
    {hx : ((oM : Memref sig .tc .vmem S1024x512 .f32).access r).Stores Finset.univ} {hm : Finset.univ = Finset.univ ∨ ∀ a, r.stride a = 1} :
    (((c : Thread nD τ).loc cc0_stg1_0) ↦{fullShare} oM.view.writes (Elt F) g L : sProp 𝕄)
      ⊢ iprop(((((c : Thread nD τ).loc cc0_stg1_0) ↦{fullShare} oM.view.writes (Elt F) g (⟨r, w⟩ :: L)) -∗ runs c (k ⟨⟩) Q)
          -∗ runs c (.op (.store oM r w Finset.univ hx hm) k) Q) :=
  wp_store_writes 𝒱₀ (c : Thread nD τ) none Set.univ (m := oM) (r := r) (w := w) (hx := hx) (hm := hm) (k := k) (Q := Q)
    (f := g) (L := L) (S := Finset.univ) (Finset.subset_univ _)

/-- A cell past its one round closes: its counter is zero and the device's again. -/
theorem close_cell (c : Dev nD) (r : Role) :
    iprop(known X K ∗ atPos ER (cell (c, r)) (0 + 1) ∅ 0) ⊢ (|={Set.univ}=> semVal (cell (c, r)) 0 : sProp 𝕄) := by
  iintro ⟨#HK, Hp⟩
  iapply (Rounds.cell_close ER (sched X) (Set.mem_univ (K (c, r))) (fun h => h) (R := 0 + 1) (duties_later X (cell (c, r))))
  isplitr; · iapply (known_inv X K (c, r)); iexact HK
  iexact Hp

/-- All five close. -/
theorem close_cells (c : Dev nD) :
    iprop(known X K ∗ bigSep Finset.univ fun r : Role => atPos ER (cell (c, r)) (0 + 1) ∅ 0)
      ⊢ (|={Set.univ}=> bigSep Finset.univ fun r : Role => semVal (cell (c, r)) 0 : sProp 𝕄) :=
  ((sep_mono_left (BI.bigSep_of_persistent Finset.univ (known X K))).trans
    (by rw [← bigSep_sep']; exact bigSep_mono fun r _ => close_cell X K c r)).trans (bigSep_fupd _ _)

end Cert.Halo

end
-- ==== Proof.Body.lean ====
/-
The body of one device, executed from what the launch gives it to what it leaves.
-/
module

public import proofs.«01_k».proof.Proof.Steps

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F) (K : Dev nD × Role → ℕ)

/-- Device `c`'s staging buffers, whole: its block of `x`, its block of the result. -/
abbrev xAll (c : Dev nD) (f : Block F) : sProp 𝕄 := ((c : Thread nD τ).loc cc0_stg0_0) ↦{fullShare} f
abbrev oAll (c : Dev nD) (f : Block F) : sProp 𝕄 := ((c : Thread nD τ).loc cc0_stg1_0) ↦{fullShare} f

/-- The body's first conditional is taken on the first device only, its second on the last only. -/
theorem first_iff (c : Dev nD) : (Scalar.cmpi .ne (Scalar.extui (Scalar.cmpi .eq (Scalar.remsi (Scalar.divsi (Dev.word c) 1#32) 4#32) 0#32) : BitVec 32) 0#32 = 1#1) ↔ c = 0 := by
  revert c; decide +kernel
theorem last_iff (c : Dev nD) : (Scalar.cmpi .ne (Scalar.extui (Scalar.cmpi .eq (Scalar.remsi (Scalar.divsi (Dev.word c) 1#32) 4#32) 3#32) : BitVec 32) 0#32 = 1#1) ↔ c = 3 := by
  revert c; decide +kernel

/-- What the body leaves, from the result's buffer at contents equal to the device's block of the result. -/
theorem hand_back (c : Dev nD) (o : Block F) (ho : o = outOf X c) (W : Waits sig Unit) (Q : PUnit → sProp 𝕄) :
    iprop((∀ W', (afterwards c ∗ owes (c : Thread nD τ) 0 W' ∗ xAll c (X c) ∗ oAll c (outOf X c)) -∗ Q ⟨⟩)
        ∗ (bigSep Finset.univ fun r : Role => semVal (cell (c, r)) 0) ∗ haloAll c (haloOf X c) ∗ owes (c : Thread nD τ) 0 W
        ∗ xAll c (X c) ∗ oAll c o) ⊢ Q ⟨⟩ := by
  subst ho
  iintro ⟨Hk, Hz, Hh, HO, Hx, Ho⟩
  iapply Hk
  unfold afterwards
  isplitl [Hh Hz]
  · isplitl [Hh]; · iexists (haloOf X c); iexact Hh
    iexact Hz
  isplitl [HO]; · iexact HO
  isplitl [Hx]; · iexact Hx
  iexact Ho

set_option maxHeartbeats 800000 in
/-- The body, effect by effect in program order: the two signals; rows 1 to 511; the barrier wait and the two transfers;
    rows 512 to 1022; the four waits; rows 0 and 1023 from the halo rows; and on the first and last device the row put
    back. It leaves the device's block of the result, its block of `x` as it was, nothing owed, every semaphore at zero. -/
theorem body_runs (c : Dev nD) (g : Block F) (W : Waits sig Unit) (Q : PUnit → sProp 𝕄) :
    iprop(ghost X K c ∗ credits c ∗ levAts L lv ∗ (∃ h, haloAll c h) ∗ owes (c : Thread nD τ) (owedAll c) W ∗ xAll c (X c) ∗ oAll c g
        ∗ (∀ W', (afterwards c ∗ owes (c : Thread nD τ) 0 W' ∗ xAll c (X c) ∗ oAll c (outOf X c)) -∗ Q ⟨⟩))
      ⊢ runs c (cc0_body (Memref.whole cc0_stg0_0) (Memref.isWhole_whole _) (Memref.whole cc0_stg1_0) (Memref.isWhole_whole _)
            (Memref.whole cc0_scratch0) (Memref.isWhole_whole _) cc0_scratch1 cc0_scratch2) Q := by
  rw [cc0_body_eq_skeleton]
  unfold cc0_body_skel
  rw [k0_part1_eq_skeleton]
  simp only [k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold ghost credits
  iintro ⟨⟨#HK, Hpos, Htf, Htt⟩, ⟨HcB, HcF, HcT⟩, #Hlev, ⟨%h0, Hh⟩, HO, Hx, Hout, Hk⟩
  unfold atStart sideToks
  ihave Hp := (Entails.of_eq (bigSep_roles _)) $$ Hpos
  icases Hp with ⟨HpB, HpSF, HpST, HpRF, HpRT⟩
  icases Htf with ⟨HtBF, HtRF, HtSF⟩
  icases Htt with ⟨HtBT, HtRT, HtST⟩
  -- the two halo rows go to the neighbours that will write them
  ihave Hhh := (halo_rows c h0).1 $$ Hh
  icases Hhh with ⟨HhF, HhT⟩
  iapply (signal_step X K false c _ (dev1_eq c) (by decide) (owedOne c) rfl W h0) $$ [HO HtBF HhF]
  · isplitr; · iexact HK
    isplitl [HO]; · iexact HO
    isplitl [HtBF]; · iexact HtBF
    iexact HhF
  iintro HO
  iapply (signal_step X K true c _ (dev2_eq c) (by decide) (owedSends c) rfl W h0) $$ [HO HtBT HhT]
  · isplitr; · iexact HK
    isplitl [HO]; · iexact HO
    isplitl [HtBT]; · iexact HtBT
    iexact HhT
  iintro HO
  -- rows 1 to 511
  ihave Hout := (Entails.of_eq (no_stores c g)) $$ Hout
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (store_step c g [] (rowsR 1 S511x512.size inb_S1024x512_S511x512_1_0)) $$ Hout; iintro Hout
  -- the neighbours' halo rows, then the two transfers, lending half of each edge row
  iapply (barrier_step X K c (by decide) W) $$ [HcB HO HpB]
  · isplitr; · iexact HK
    isplitl [HcB]; · iexact HcB
    isplitl [HO]; · iexact HO
    isplitr; · iexact Hlev
    iexact HpB
  iintro ⟨HO, HpB, ⟨%hN, HhN⟩, ⟨%hP, HhP⟩⟩
  ihave Hxx := (block_lend X c).1 $$ Hx
  icases Hxx with ⟨⟨HeF, HeT, Hxl⟩, Hx⟩
  iapply (send_step X K false c _ (dev3_eq c) (tallyAt (recvCell true (prv c)) () N) rfl (insert (SemLoc.reg barS, ()) W) hN) $$ [HeF HhN HO HtRF HtSF]
  · isplitr; · iexact HK
    isplitl [HeF]; · iexact HeF
    isplitl [HhN]; · iexact HhN
    isplitl [HO]; · iexact HO
    isplitl [HtRF]; · iexact HtRF
    iexact HtSF
  iintro ⟨HcSF, HO⟩
  iapply (send_step X K true c _ (dev4_eq c) 0 (zero_add _).symm (insert (SemLoc.reg barS, ()) W) hP) $$ [HeT HhP HO HtRT HtST]
  · isplitr; · iexact HK
    isplitl [HeT]; · iexact HeT
    isplitl [HhP]; · iexact HhP
    isplitl [HO]; · iexact HO
    isplitl [HtRT]; · iexact HtRT
    iexact HtST
  iintro ⟨HcST, HO⟩
  -- rows 512 to 1022, while the transfers fly
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (store_step c g _ (rowsR 512 S511x512.size inb_S1024x512_S511x512_512_0)) $$ Hout; iintro Hout
  -- the four waits: the lent rows back, the halo rows filled
  iapply (sent_step X K false c _) $$ [HcSF HO HpSF]
  · isplitr; · iexact HK
    isplitl [HcSF]; · iexact HcSF
    isplitl [HO]; · iexact HO
    iexact HpSF
  iintro ⟨HO, HpSF, HeF⟩
  iapply (received_step X K false c _) $$ [HcF HO HpRF]
  · isplitr; · iexact HK
    isplitl [HcF]; · iexact HcF
    isplitl [HO]; · iexact HO
    iexact HpRF
  iintro ⟨HO, HpRF, HhF⟩
  iapply (sent_step X K true c _) $$ [HcST HO HpST]
  · isplitr; · iexact HK
    isplitl [HcST]; · iexact HcST
    isplitl [HO]; · iexact HO
    iexact HpST
  iintro ⟨HO, HpST, HeT⟩
  iapply (received_step X K true c _) $$ [HcT HO HpRT]
  · isplitr; · iexact HK
    isplitl [HcT]; · iexact HcT
    isplitl [HO]; · iexact HO
    iexact HpRT
  iintro ⟨HO, HpRT, HhT⟩
  ihave Hx := (block_lend X c).2 $$ [HeF HeT Hxl Hx]
  · isplitl [HeF HeT Hxl]
    · isplitl [HeF]; · iexact HeF
      isplitl [HeT]; · iexact HeT
      iexact Hxl
    iexact Hx
  ihave Hh := (halo_rows c (haloOf X c)).2 $$ [HhF HhT]
  · isplitl [HhF]; · iexact HhF
    iexact HhT
  imod (close_cells X K c) $$ [HpB HpSF HpST HpRF HpRT] with Hz
  · isplitr; · iexact HK
    iapply (Entails.of_eq (bigSep_roles (fun r : Role => (atPos ER (cell (c, r)) (0 + 1) ∅ 0 : sProp 𝕄))).symm)
    isplitl [HpB]; · iexact HpB
    isplitl [HpSF]; · iexact HpSF
    isplitl [HpST]; · iexact HpST
    isplitl [HpRF]; · iexact HpRF
    iexact HpRT
  -- rows 0 and 1023, from the halo rows
  iapply (wp_load 𝒱₀ (c : Thread nD τ) none Set.univ (m := hM) (Finset.subset_univ _)) $$ Hh; iintro Hh
  iapply (wp_load 𝒱₀ (c : Thread nD τ) none Set.univ (m := hM) (Finset.subset_univ _)) $$ Hh; iintro Hh
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (store_step c g _ (rowsR 0 S1x512.size inb_S1024x512_S1x512_0_0)) $$ Hout; iintro Hout
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (store_step c g _ (rowsR 1023 S1x512.size inb_S1024x512_S1x512_1023_0)) $$ Hout; iintro Hout
  -- the first device puts its row 0 back, the last its row 1023
  by_cases hc0 : c = 0
  · have hc3 : c ≠ 3 := by rw [hc0]; decide
    rw [dif_pos ((first_iff c).mpr hc0)]
    simp only [Prog.bind_op, Prog.bind_ret, dif_neg (fun h => hc3 ((last_iff c).mp h))]
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (store_step c g _ (rowsR 0 S1x512.size inb_S1024x512_S1x512_0_0)) $$ Hout; iintro Hout
    unfold runs; rw [wp_ret]; imodintro
    iapply (hand_back X c _ (out_first X c hc0 g) _ Q) $$ [Hk Hz Hh HO Hx Hout]
    isplitl [Hk]; · iexact Hk
    isplitl [Hz]; · iexact Hz
    isplitl [Hh]; · iexact Hh
    isplitl [HO]; · iexact HO
    isplitl [Hx]; · iexact Hx
    iexact Hout
  rw [dif_neg (fun h => hc0 ((first_iff c).mp h))]
  by_cases hc3 : c = 3
  · simp only [Prog.bind_op, Prog.bind_ret, dif_pos ((last_iff c).mpr hc3)]
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (store_step c g _ (rowsR 1023 S1x512.size inb_S1024x512_S1x512_1023_0)) $$ Hout; iintro Hout
    unfold runs; rw [wp_ret]; imodintro
    iapply (hand_back X c _ (out_last X c hc3 g) _ Q) $$ [Hk Hz Hh HO Hx Hout]
    isplitl [Hk]; · iexact Hk
    isplitl [Hz]; · iexact Hz
    isplitl [Hh]; · iexact Hh
    isplitl [HO]; · iexact HO
    isplitl [Hx]; · iexact Hx
    iexact Hout
  simp only [Prog.bind_op, Prog.bind_ret, dif_neg (fun h => hc3 ((last_iff c).mp h))]
  unfold runs; rw [wp_ret]; imodintro
  iapply (hand_back X c _ (out_middle X c hc0 hc3 g) _ Q) $$ [Hk Hz Hh HO Hx Hout]
  isplitl [Hk]; · iexact Hk
  isplitl [Hz]; · iexact Hz
  isplitl [Hh]; · iexact Hh
  isplitl [HO]; · iexact HO
  isplitl [Hx]; · iexact Hx
  iexact Hout

end Cert.Halo

end
-- ==== Proof.Deal.lean ====
/-
Dealing the exchange at launch: from the semaphores at zero and the launch's own element, every device gets the cells'
invariants, its positions and the tokens of the duties it pays; and from what all devices owe, the credit each waits with.
-/
module

public import proofs.«01_k».proof.Proof.Protocol

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F)

/-! ## The cells and the tokens -/

theorem roleSem_injective : Function.Injective roleSem := by
  rintro (_ | ⟨_ | _, a⟩) (_ | ⟨_ | _, b⟩) h
  case none.none => rfl
  case some.false.some.false => rw [send_inj (SemLoc.dma.inj h)]
  case some.false.some.true => exact absurd (SemLoc.dma.inj h) (send_ne_recv a b)
  case some.true.some.false => exact absurd (SemLoc.dma.inj h).symm (send_ne_recv b a)
  case some.true.some.true => rw [recv_inj (SemLoc.dma.inj h)]
  all_goals cases h

theorem cell_injective : Function.Injective cell := fun p q h => by
  have h1 : p.1 = q.1 := congrArg (fun g : GSem nD τ sig => g.1.1) h
  exact Prod.ext h1 (roleSem_injective (congrArg Prod.snd h))

/-- The exchange's cells: each device's five. -/
def cells : Finset (GSem nD τ sig) := Finset.univ.map ⟨cell, cell_injective⟩

/-- The duties of a device's cells: of each side its barrier's unit, its receive and its send. -/
abbrev Duty : Type := Bool × Option Bool
/-- The role of a duty's cell, and the duty's name in its round. -/
abbrev dutyRole (d : Duty) : Role := d.2.map fun k => (k, d.1)
abbrev dutyName (d : Duty) : Bool := d.2.isNone && d.1
theorem duty_injective : Function.Injective fun d : Duty => (dutyRole d, dutyName d) := by decide

abbrev dutyAt (p : Dev nD × Duty) : GSem nD τ sig × ℕ × Bool := (cell (p.1, dutyRole p.2), 0, dutyName p.2)
theorem dutyAt_injective : Function.Injective dutyAt := fun p q h => by
  have h1 := cell_injective (congrArg Prod.fst h)
  have h2 : dutyName p.2 = dutyName q.2 := congrArg (fun x : GSem nD τ sig × ℕ × Bool => x.2.2) h
  have h3 : p.1 = q.1 := congrArg (fun x : Dev nD × Role => x.1) h1
  have h4 : dutyRole p.2 = dutyRole q.2 := congrArg (fun x : Dev nD × Role => x.2) h1
  exact Prod.ext h3 (duty_injective (Prod.ext h4 h2))

def duties : Finset (GSem nD τ sig × ℕ × Bool) := Finset.univ.map ⟨dutyAt, dutyAt_injective⟩

/-- The launch's element: the pipeline's, and the exchange's cells and duties. -/
def u₀ : UU := (initOf (Pipeline.cells cfgs cellOf_inj) (Pipeline.launchToks cfgs cellOf_inj), initOf cells duties)

/-- The tokens of side `b` of device `c`'s own cells. -/
def ownToks (b : Bool) (c : Dev nD) : sProp 𝕄 :=
  iprop(dutyTok ER (barCell c) 0 b ∗ dutyTok ER (recvCell b c) 0 false ∗ dutyTok ER (sendCell b c) 0 false)

/-- What the element deals device `c`: the opened rounds of its cells, its positions, its cells' tokens. -/
def dealt (c : Dev nD) : sProp 𝕄 :=
  iprop((bigSep Finset.univ fun r : Role => roundState ER (sched X) (cell (c, r)) 0)
    ∗ (bigSep Finset.univ fun r : Role => iprop(atPos ER (cell (c, r)) 0 ∅ 0 ∗ reached ER (cell (c, r)) 0))
    ∗ ownToks false c ∗ ownToks true c)

/-- What it holds once the cells' invariants stand. -/
def armed (c : Dev nD) : sProp 𝕄 := iprop(∃ K, ghost X K c)

omit [FloatOps F] in
theorem bigSep_duties (Φ : Duty → sProp 𝕄) : bigSep Finset.univ Φ
    = iprop(Φ (false, none) ∗ Φ (false, some true) ∗ Φ (false, some false) ∗ Φ (true, none) ∗ Φ (true, some true) ∗ Φ (true, some false)) :=
  bigSep_univ_eq_bigSepL [(false, none), (false, some true), (false, some false), (true, none), (true, some true), (true, some false)]
    (by decide) (by decide) Φ

omit [FloatOps F] in
/-- A device's six tokens, side by side. -/
theorem own_toks (c : Dev nD) :
    iprop(dutyTok ER (barCell c) 0 false ∗ dutyTok ER (recvCell false c) 0 false ∗ dutyTok ER (sendCell false c) 0 false
      ∗ dutyTok ER (barCell c) 0 true ∗ dutyTok ER (recvCell true c) 0 false ∗ dutyTok ER (sendCell true c) 0 false)
    ⊢ (iprop(ownToks false c ∗ ownToks true c) : sProp 𝕄) := by
  unfold ownToks
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

omit [FloatOps F] in
/-- The exchange's half of the launch's element is every device's deal. -/
theorem deal : BI.own (ER (initOf cells duties)) ⊢ (|==> bigSep Finset.univ (dealt X) : sProp 𝕄) := by
  have hcells (Φ : GSem nD τ sig → sProp 𝕄) : bigSep cells Φ = bigSep Finset.univ fun c : Dev nD => bigSep Finset.univ fun r : Role => Φ (cell (c, r)) := by
    unfold cells; rw [bigSep_map, bigSep_univ_prod]; rfl
  have htoks : bigSep duties (fun x => (dutyTok ER x.1 x.2.1 x.2.2 : sProp 𝕄)) ⊢ bigSep Finset.univ fun c : Dev nD => iprop(ownToks false c ∗ ownToks true c) := by
    unfold duties; rw [bigSep_map, bigSep_univ_prod]
    refine bigSep_mono fun c _ => ?_
    rw [bigSep_duties]
    exact own_toks c
  iintro H
  imod (Rounds.fund ER (sched X) cells duties) $$ H with ⟨Hst, Hr, Hat, Htok⟩
  imodintro
  unfold dealt; simp only [bigSep_sep']
  ihave Hst := (Entails.of_eq (hcells fun g => roundState ER (sched X) g 0)) $$ Hst
  ihave Hat := (Entails.of_eq (hcells fun g => atPos ER g 0 ∅ 0)) $$ Hat
  ihave Hr := (Entails.of_eq (hcells fun g => reached ER g 0)) $$ Hr
  ihave Htok := htoks $$ Htok
  ihave Htok := (Entails.of_eq (bigSep_sep' Finset.univ (fun c : Dev nD => (ownToks false c : sProp 𝕄)) (fun c => ownToks true c))) $$ Htok
  isplitl [Hst]; · iexact Hst
  isplitl [Hat Hr]
  · isplitl [Hat]; · iexact Hat
    iexact Hr
  iexact Htok

/-! ## The semaphores at zero -/

/-- The kernel's own semaphores: a side's send and receive. -/
abbrev ownSem : Fin 4 → SemLoc sig := fun
  | 0 => .dma (sendS false) | 1 => .dma (sendS true) | 2 => .dma (recvS false) | 3 => .dma (recvS true)

theorem ownSemFacts : Pipeline.OwnSemFacts cfg0.spec ownSem := by decide

omit [FloatOps F] in
theorem ownSems0_eq (c : Dev nD) : (Pipeline.ownSems0 (Ix := Unit) (Name := ℕ) (U := UU) (Lvl := ℕ) (Val := Elt F) (τ := τ) ownSem c : sProp 𝕄)
    = iprop(semVal (sendCell false c) 0 ∗ semVal (sendCell true c) 0 ∗ semVal (recvCell false c) 0 ∗ semVal (recvCell true c) 0) := by
  rw [Pipeline.ownSems0_eq_of_list c ownSem [0, 1, 2, 3] (by decide) (by decide)]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The runtime's barrier semaphore and the kernel's four are the device's five. -/
theorem sems0_eq (c : Dev nD) :
    (bigSep Finset.univ fun r : Role => semVal (cell (c, r)) 0 : sProp 𝕄)
      = iprop(unscopedSems0 c ∗ Pipeline.ownSems0 (Ix := Unit) (Name := ℕ) (U := UU) (Lvl := ℕ) (Val := Elt F) (τ := τ) ownSem c) := by
  rw [ownSems0_eq, unscopedSems0_eq, bigSep_roles]

/-! ## The invariants -/

omit [FloatOps F] in
/-- A device's cells, their semaphores at zero and their rounds opened, get their invariants. -/
theorem alloc_device (c : Dev nD) :
    iprop(Pipeline.ownSems0 (Ix := Unit) (Name := ℕ) (U := UU) (Lvl := ℕ) (Val := Elt F) (τ := τ) ownSem c ∗ unscopedSems0 c ∗ dealt X c)
      ⊢ |={Set.univ}=> iprop((bigSep Finset.univ fun r : Role => iprop(∃ κ : ℕ, cellInv ER (sched X) κ (cell (c, r))))
          ∗ (bigSep Finset.univ fun r : Role => iprop(atPos ER (cell (c, r)) 0 ∅ 0 ∗ reached ER (cell (c, r)) 0)) ∗ ownToks false c ∗ ownToks true c) := by
  unfold dealt
  iintro ⟨Hos, Hus, Hst, Hrest⟩
  ihave Hv := (Entails.of_eq (sems0_eq (F := F) c).symm) $$ [Hos Hus]
  · isplitl [Hus]; · iexact Hus
    iexact Hos
  imod (show iprop((bigSep Finset.univ fun r : Role => semVal (cell (c, r)) 0) ∗ bigSep Finset.univ fun r : Role => roundState ER (sched X) (cell (c, r)) 0)
      ⊢ (|={Set.univ}=> bigSep Finset.univ fun r : Role => iprop(∃ κ : ℕ, cellInv ER (sched X) κ (cell (c, r))) : sProp 𝕄) from by
        rw [← bigSep_sep']
        exact (bigSep_mono fun r _ => (Rounds.body_intro ER (sched X) (cell (c, r))).trans inv_alloc).trans (bigSep_fupd _ _)) $$ [Hv Hst] with Hinv
  · isplitl [Hv]; · iexact Hv
    iexact Hst
  imodintro
  isplitl [Hinv]; · iexact Hinv
  iexact Hrest

omit [FloatOps F] in
/-- Each side's tokens go to the devices that pay them: a barrier's one step back, a receive's one step on. -/
theorem pass_toks (b : Bool) : (bigSep Finset.univ fun c : Dev nD => (ownToks b c : sProp 𝕄)) ⊢ bigSep Finset.univ fun c : Dev nD => sideToks b c := by
  unfold ownToks sideToks
  rw [bigSep_sep', bigSep_sep', bigSep_sep', bigSep_sep',
    bigSep_univ_equiv (step (!b)) (fun c : Dev nD => (dutyTok ER (barCell c) 0 b : sProp 𝕄)),
    bigSep_univ_equiv (step b) (fun c : Dev nD => (dutyTok ER (recvCell b c) 0 false : sProp 𝕄))]
  exact .rfl

omit [FloatOps F] in
/-- What is known of all cells, a device's positions and its tokens arm it. -/
theorem arm_one (K : Dev nD × Role → ℕ) (c : Dev nD) :
    iprop(known X K ∗ atStart c ∗ sideToks false c ∗ sideToks true c) ⊢ armed X c := by
  unfold armed
  iintro H
  iexists K
  unfold ghost
  iexact H

omit [FloatOps F] in
/-- From all devices' invariants, positions and tokens, every device armed. -/
theorem arm :
    (bigSep Finset.univ fun c : Dev nD => iprop((bigSep Finset.univ fun r : Role => iprop(∃ κ : ℕ, cellInv ER (sched X) κ (cell (c, r))))
          ∗ (bigSep Finset.univ fun r : Role => iprop(atPos ER (cell (c, r)) 0 ∅ 0 ∗ reached ER (cell (c, r)) 0)) ∗ ownToks false c ∗ ownToks true c) : sProp 𝕄)
      ⊢ bigSep Finset.univ (armed X) := by
  simp only [bigSep_sep']
  rw [← bigSep_univ_prod (fun p : Dev nD × Role => iprop(∃ κ : ℕ, cellInv ER (sched X) κ (cell p))),
    ← bigSep_univ_prod (fun p : Dev nD × Role => (reached ER (cell p) 0 : sProp 𝕄))]
  iintro ⟨HI, ⟨Hat, #HR⟩, Hf, Ht⟩
  ihave HK := (BI.bigSep_exists_pi Finset.univ (fun (p : Dev nD × Role) (κ : ℕ) => (cellInv ER (sched X) κ (cell p) : sProp 𝕄))) $$ HI
  icases HK with ⟨%K, #HI⟩
  ihave Hf := (pass_toks (F := F) false) $$ Hf
  ihave Ht := (pass_toks (F := F) true) $$ Ht
  iapply (show iprop(known X K ∗ bigSep Finset.univ fun c : Dev nD => iprop(atStart c ∗ sideToks false c ∗ sideToks true c)) ⊢ bigSep Finset.univ (armed X) from
    (sep_mono_left (BI.bigSep_of_persistent Finset.univ (known X K))).trans (by
      rw [← bigSep_sep']
      exact bigSep_mono fun c _ => arm_one X K c))
  isplitr
  · unfold known
    isplitl; · iexact HI
    iexact HR
  simp only [bigSep_sep']
  unfold atStart
  isplitl [Hat]; · iexact Hat
  isplitl [Hf]; · iexact Hf
  iexact Ht

omit [FloatOps F] in
/-- The launch's global step. -/
theorem arm_all : (bigSep Finset.univ fun c => iprop(Pipeline.ownSems0 (Ix := Unit) (Name := ℕ) (U := UU) (Lvl := ℕ) (Val := Elt F) (τ := τ) ownSem c ∗ unscopedSems0 c ∗ dealt X c) : sProp 𝕄)
    ⊢ |={Set.univ}=> bigSep Finset.univ (armed X) :=
  ((bigSep_mono fun c _ => alloc_device X c).trans (bigSep_fupd _ _)).trans (BI.fupd_mono (arm X))

/-! ## The credit -/

/-- One tally per device, around the ring at the semaphore `s`: at one device's semaphore there is one of them, or none. -/
theorem sum_around (b : Bool) (s s' : SemLoc sig) (n : ℕ) (c : Dev nD) :
    ∑ d : Dev nD, (tallyAt ((peer b d : Thread nD τ), s) () n : CellTallies nD τ sig Unit) ((c : Thread nD τ), s') () = if s' = s then n else 0 := by
  refine (Equiv.sum_comp (step b) fun d => (tallyAt ((d : Thread nD τ), s) () n : CellTallies nD τ sig Unit) ((c : Thread nD τ), s') ()).trans ?_
  by_cases h : s' = s
  · subst h
    rw [if_pos rfl, Finset.sum_eq_single c]
    · rw [tallyAt_apply, if_pos ⟨rfl, rfl⟩]
    · intro d _ hd
      rw [tallyAt_apply, if_neg fun h' => hd (congrArg (fun g : GSem nD τ sig => g.1.1) h'.1).symm]
    · exact fun h' => absurd (Finset.mem_univ c) h'
  · rw [if_neg h]
    exact Finset.sum_eq_zero fun d _ => by rw [tallyAt_apply, if_neg fun h' => h (congrArg Prod.snd h'.1)]

/-- All devices together owe a device's semaphore the sum of its shares in the four obligations. -/
theorem owed_total (c : Dev nD) (s : SemLoc sig) : ∑ d : Dev nD, owedAll d ((c : Thread nD τ), s) ()
    = (((if s = .dma (recvS true) then N else 0) + if s = .dma (recvS false) then N else 0) + if s = .reg barS then 1 else 0) + if s = .reg barS then 1 else 0 := by
  rw [← sum_around true (.dma (recvS true)) s N c, ← sum_around false (.dma (recvS false)) s N c]
  conv_rhs => enter [2]; rw [← sum_around true (.reg barS) s 1 c]
  conv_rhs => enter [1, 2]; rw [← sum_around false (.reg barS) s 1 c]
  rw [← Finset.sum_add_distrib, ← Finset.sum_add_distrib, ← Finset.sum_add_distrib]
  rfl

/-- So the launch's credit of a semaphore is that much. -/
theorem launch_tally (c : Dev nD) (s : SemLoc sig) (n : ℕ) (h : ∑ d : Dev nD, owedAll d ((c : Thread nD τ), s) () = n) :
    tallyOn ((c : Thread nD τ), s) (launchCredit (Pipeline.owing owedAll) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

omit [FloatOps F] in
/-- The credit a device starts with is what it waits with. -/
theorem credits_intro (c : Dev nD) : (Pipeline.launchCred owedAll c : sProp 𝕄) ⊢ credits c := by
  have hr (b : Bool) : ∑ d : Dev nD, owedAll d (recvCell b c) () = N := by
    rw [owed_total]
    cases b
    · rw [if_neg (fun h => Bool.noConfusion (recv_inj (SemLoc.dma.inj h))), if_pos rfl, if_neg (fun h => by cases h)]; omega
    · rw [if_pos rfl, if_neg (fun h => Bool.noConfusion (recv_inj (SemLoc.dma.inj h))), if_neg (fun h => by cases h)]; omega
  have hb : ∑ d : Dev nD, owedAll d (barCell c) () = 2 := by
    rw [owed_total, if_neg (fun h => by cases h), if_neg (fun h => by cases h), if_pos rfl]
  unfold Pipeline.launchCred credits
  refine (bigSep_subset (Finset.subset_univ (Finset.univ.map ⟨roleSem, roleSem_injective⟩))).trans ?_
  rw [bigSep_map]
  dsimp only [Function.Embedding.coeFn_mk]
  rw [bigSep_roles]
  show (_ : sProp 𝕄) ⊢ _
  iintro ⟨Hb, -, -, Hf, Ht⟩
  isplitl [Hb]
  · iapply (Entails.of_eq (congrArg cred (launch_tally c (.reg barS) 2 hb))); iexact Hb
  isplitl [Hf]
  · iapply (Entails.of_eq (congrArg cred (launch_tally c (.dma (recvS false)) N (hr false)))); iexact Hf
  iapply (Entails.of_eq (congrArg cred (launch_tally c (.dma (recvS true)) N (hr true)))); iexact Ht

end Cert.Halo

end
-- ==== Proof.Launch.lean ====
/-
The launch: the exchange's resources dealt to the four devices, the body obligation discharged, and the whole run — from
any memory with zero counters, every execution ends with each device's block of the result computed, `x` as it was and
every counter at zero.
-/
module

public import proofs.«01_k».proof.Proof.Body
public import proofs.«01_k».proof.Proof.Deal
public import Idealize.ShloMosaic.Lib.Pipeline.CollectiveSegs

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The devices' blocks, and the pipeline's data -/

/-- Device `c`'s block of `x`: what the launch memory holds in its argument array. -/
def blockOf (c : Dev nD) : Block F := (win0_0.blk (0 : Fin 1)).view.read (Elt F) (m ((c : Thread nD τ).loc main_arg0))

/-- The pipeline has one point: before it the start and everything owed, after it nothing owed; the body leaves its block
    of `x` as fetched and the result's. -/
def dats (_ : Fin 1) (c : Dev nD) : Dat τ (Elt F) Unit ℕ UU ℕ cfg0 c where
  A w := m ((cfg0.win w).arr.view.loc (c : Thread nD τ))
  after w _ := match w with
    | ⟨0, _⟩ => blockOf m c
    | ⟨1, _⟩ => outOf (blockOf m) c
  Φ t := match t with
    | ⟨0, _⟩ => before (blockOf m) c
    | ⟨_ + 1, _⟩ => afterwards c
  q _ := fullShare
  owed t := match t with
    | ⟨0, _⟩ => owedAll c
    | ⟨_ + 1, _⟩ => 0

/-- The body meets the pipeline's obligation at its one point. -/
theorem body_obligation (c : Dev nD) : BodyObligation (dats (F := F) m 0 c) (defs₀ (F := F)) 𝒱₀ () Set.univ := fun t => by
  rw [fin_N0 t, bigSep_W0, bigSep_W0]
  show iprop(before (blockOf m) c ∗ (dats m 0 c).owesAt () t0_0.castSucc
      ∗ (∃ d, owns (c : Thread nD τ) (Memref.whole cc0_stg0_0) fullShare ((dats m 0 c).before (0 : Fin 2) t0_0 d))
      ∗ (∃ d, owns (c : Thread nD τ) (Memref.whole cc0_stg1_0) fullShare ((dats m 0 c).before (1 : Fin 2) t0_0 d)))
    ⊢ runs c (cc0_body (Memref.whole cc0_stg0_0) (Memref.isWhole_whole _) (Memref.whole cc0_stg1_0) (Memref.isWhole_whole _)
          (Memref.whole cc0_scratch0) (Memref.isWhole_whole _) cc0_scratch1 cc0_scratch2)
        (fun _ => iprop(afterwards c ∗ (dats m 0 c).owesAt () t0_0.succ
          ∗ owns (c : Thread nD τ) (Memref.whole cc0_stg0_0) fullShare (blockOf m c)
          ∗ owns (c : Thread nD τ) (Memref.whole cc0_stg1_0) fullShare (outOf (blockOf m) c)))
  rw [owns_whole, owns_whole]
  unfold before start Dat.owesAt Pipeline.owesWithin
  iintro ⟨⟨⟨⟨%K, Hg⟩, Hc, Hl⟩, Hh⟩, ⟨%W, %hW, HO⟩, ⟨%d0, Hx⟩, ⟨%d1, Hout⟩⟩
  ihave Hx := (Entails.of_eq (owns_whole (c : Thread nD τ) cc0_stg0_0 fullShare _)) $$ Hx
  ihave Hout := (Entails.of_eq (owns_whole (c : Thread nD τ) cc0_stg1_0 fullShare _)) $$ Hout
  rw [show (dats m 0 c).before (0 : Fin 2) t0_0 d0 = blockOf m c from if_pos (fetch0_0 t0_0)]
  iapply (body_runs (blockOf m) K c _ W _)
  isplitl [Hg]; · iexact Hg
  isplitl [Hc]; · iexact Hc
  isplitl [Hl]; · iexact Hl
  isplitl [Hh]; · iexact Hh
  isplitl [HO]; · iexact HO
  isplitl [Hx]; · iexact Hx
  isplitl [Hout]; · iexact Hout
  iintro %W' ⟨Ha, HO, Hx, Ho⟩
  isplitl [Ha]; · iexact Ha
  isplitl [HO]
  · iexists W'
    isplitr; · ipureintro; exact fun _ _ => Or.inl trivial
    iexact HO
  isplitl [Hx]; · iexact Hx
  iexact Ho

/-! ## Around the body -/

omit [FloatOps F] in
/-- The launch's remainder becomes the body's start. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ armed (blockOf m) c)
      ⊢ |={Set.univ}=> iprop(start (blockOf m) c ∗ emp) := by
  iintro ⟨-, Hl, Hc, -, Hg⟩
  ihave Hc := (credits_intro (F := F) c) $$ Hc
  imodintro
  unfold start armed
  isplitl
  · isplitl [Hg]; · iexact Hg
    isplitl [Hc]; · iexact Hc
    iexact Hl
  · iempintro

/-- With the halo buffer it is what the pipeline's point starts from; -/
theorem before_intro (c : Dev nD) :
    iprop(start (blockOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before (blockOf m) c from rfl, scopedRest0_eq]
  unfold before
  iintro ⟨Hs, -, Hh⟩
  isplitl [Hs]; · iexact Hs
  iexact Hh

/-- and what the point leaves is the semaphores at zero and the halo buffer. -/
theorem afterwards_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = afterwards c from rfl, scopedRest0_eq]
  unfold afterwards
  rw [sems0_eq]
  iintro ⟨Hh, Hu, Ho⟩
  isplitl [Hu]; · iexact Hu
  isplitl [Ho]; · iexact Ho
  iexact Hh

theorem stage_ne_recv : ∀ (w : Fin cfg0.W) (s : Fin (cfg0.win w).nbuf) (b : Bool), (cfg0.win w).sem s ≠ recvS b := by decide

/-- The pipeline's own waits are below everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_ne_recv w s)
    · show (levAts L lv : sProp 𝕄) ⊢ MayWait (c : Thread nD τ) _ () 0
      rw [MayWait_zero]; iintro -; iempintro

/-! ## The run -/

/-- What a window's array holds at the end. -/
def finalOf (c : Dev nD) (w : Fin cfg0.W) : Buf (Elt F) ((cfg0.win w).arr.view.loc (c : Thread nD τ)) := (dats m 0 c).arrAt w cfg0.N

theorem share_eq (c : Dev nD) (w : Fin cfg0.W) : (dats m 0 c).share w = fullShare := by unfold Dat.share; split <;> rfl

theorem L_of_ne (g : GSem nD τ sig) (h : g.1.2 ≠ .tc) : L g = ∅ := if_neg h

set_option maxRecDepth 8000 in
/-- On four devices, for any float values, from any memory with zero counters: every weakly fair execution of the program
    ends, each window's array at its final contents and every semaphore counter at zero. -/
theorem run_all : θ_run defs (onTc (τ := τ) (main (F := F))) ⟨m, fun _ => 0, ρ⟩
    (fun r => (∀ c : Dev nD, ∀ w : Fin cfg0.W, r.2.mem ((cfg0.win w).arr.view.loc (c : Thread nD τ)) = finalOf m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := dealt (blockOf m)) (G' := armed (blockOf m)) (u₀ := u₀)
    (hu₀ := by
      unfold u₀
      iintro Hu
      ihave H := (ownU_pair _ _) $$ Hu
      icases H with ⟨HP, HX⟩
      imod (deal (blockOf m)) $$ HX with HG
      imodintro
      isplitl [HP] <;> iassumption)
    (hglob := arm_all (blockOf m))
    (hA := fun _ _ => rfl) (hpf := fun _ k => k.elim0)
    (X := start (blockOf m)) (Y := fun c => unscopedSems0 c) (Z := fun _ => iprop(emp))
    (hX := start_intro m ρ) (hin := before_intro m) (hout := afterwards_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The block of the argument is the array whole. -/
theorem blockOf_eq (c : Dev nD) : blockOf m c = m ((c : Thread nD τ).loc main_arg0) :=
  Memref.read_access_unit_zero (Elt F) main_arg0 (funext fun a => by fin_cases a <;> decide) (fun a => by fin_cases a <;> decide) _

/-- The argument array ends as it was. -/
theorem final_arg (c : Dev nD) : finalOf m c (0 : Fin 2) = m ((c : Thread nD τ).loc main_arg0) := (dats (F := F) m 0 c).arrAt_in (0 : Fin 2) rfl _

/-- The result array ends at the device's block of the result. -/
theorem final_out (c : Dev nD) : finalOf m c (1 : Fin 2) = outOf (fun d : Dev nD => m ((d.tc : Thread nD τ).loc main_arg0)) c := by
  have h := (dats (F := F) m 0 c).read_blk_arrAt_eq_flushed (1 : Fin 2)
    (fun t t' _ _ h => absurd ((fin_N0 t).trans (fin_N0 t').symm) h) cfg0.N t0_0 (t0_0).isLt (flush0_1 t0_0)
  have hb : (fun d : Dev nD => m ((d.tc : Thread nD τ).loc main_arg0)) = blockOf m := funext fun d => (blockOf_eq m d).symm
  rw [hb]
  refine Eq.trans (Eq.symm ?_) h
  exact Memref.read_access_unit_zero (Elt F) main_v1 (funext fun a => by fin_cases a <;> decide) (fun a => by fin_cases a <;> decide) _

/-- The run: each device's result array ends at its block of the result, its argument as it was, every counter zero. -/
theorem run_main : θ_run defs (onTc (τ := τ) (main (F := F))) ⟨m, fun _ => 0, ρ⟩
    (fun r => (∀ c : Dev nD, r.2.mem ((c : Thread nD τ).loc main_v1) = outOf (fun d : Dev nD => m ((d.tc : Thread nD τ).loc main_arg0)) c
        ∧ r.2.mem ((c : Thread nD τ).loc main_arg0) = m ((c : Thread nD τ).loc main_arg0)) ∧ r.2.sem = fun _ => 0) :=
  (θ_run _ _ _).mono (fun r h => ⟨fun c => ⟨(h.1 c (1 : Fin 2)).trans (final_out m c), (h.1 c (0 : Fin 2)).trans (final_arg m c)⟩, h.2⟩) (run_all m ρ)

end Cert.Halo

end
-- ==== Proof.Filtered.lean ====
/-
The reference's value: the three-point filter down the rows of the whole array, its first and last row kept.
Element by element it is given here in the reference's own order of operations.
-/
module

public import proofs.«01_k».proof.Proof.Gen.ReferenceIdeal.Run
public import Idealize.ShloMosaic.Lib.Pipeline.Value
public import Idealize.ShloMosaic.Lib.ValueIdxCoords

@[expose] public section

noncomputable section

namespace Cert.Halo

open Cert.ReferenceIdeal Cert.ReferenceIdeal.Gen
open Idealize.ShloMosaic Idealize.ShloMosaic.TcCoe Idealize.ShloMosaic.ValueIdx
open Idealize.SL.Sem

variable {F : FTy → Type} [FloatOps F]

/-- The whole array. -/
abbrev Whole (F : FTy → Type) : Type := S4096x512.Idx → Elt F .f32

/-- The whole array's element at a row and a column. -/
abbrev whole2 (Y : Whole F) (r : ℕ) (hr : r < 4096) (l : Fin 512) : Elt F .f32 := Y (ix2 ⟨r, hr⟩ l)

/-- The filter on one element as the reference computes it: three products added from the top down. -/
def taps (up mid down : F .f32) : F .f32 :=
  FloatOps.addf (FloatOps.addf (FloatOps.mulf (FloatOps.ofBits .f32 0x3E800000#32) up) (FloatOps.mulf (FloatOps.ofBits .f32 0x3F000000#32) mid))
    (FloatOps.mulf (FloatOps.ofBits .f32 0x3E800000#32) down)

/-- The rows between the first and the last, filtered: row `r` of it is the filter at row `r + 1`. -/
def inner (Y : Whole F) : S4094x512.Idx → Elt F .f32 :=
  addf (addf (mulf (broadcastInDim S4094x512 ![] bcast_S_S4094x512 (constant S_ .f32 0x3E800000#32)) (extractStridedSlice S4094x512 ![0, 0] Y slices_S4096x512_S4094x512_0_0))
      (mulf (broadcastInDim S4094x512 ![] bcast_S_S4094x512 (constant S_ .f32 0x3F000000#32)) (extractStridedSlice S4094x512 ![1, 0] Y slices_S4096x512_S4094x512_1_0)))
    (mulf (broadcastInDim S4094x512 ![] bcast_S_S4094x512 (constant S_ .f32 0x3E800000#32)) (extractStridedSlice S4094x512 ![2, 0] Y slices_S4096x512_S4094x512_2_0))

/-- The three pieces of the reference's result: the first row, the rows between, the last row. -/
abbrev pieces (Y : Whole F) : List ((s : Shape) × (s.Idx → Elt F .f32)) :=
  [⟨S1x512, extractStridedSlice S1x512 ![0, 0] Y slices_S4096x512_S1x512_0_0⟩, ⟨S4094x512, inner Y⟩,
    ⟨S1x512, extractStridedSlice S1x512 ![4095, 0] Y slices_S4096x512_S1x512_4095_0⟩]

/-- The reference's result, as the program composes it. -/
def filtered (Y : Whole F) : Whole F := concatenate S4096x512 0 (pieces Y) concatenates_S1x512_S4094x512_S1x512_S4096x512_d0

/-- The reference's run: its result ends at that, its argument as it was. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = filtered (m ((c.tc : Thread nD τ).loc main_arg0))
        ∧ r.2.mem ((c.tc : Thread nD τ).loc main_arg0) = m ((c.tc : Thread nD τ).loc main_arg0) :=
  Cert.ReferenceIdeal.Value.run m ρ

/-- An inner row's element is the filter of the three elements around it. -/
theorem inner_apply (Y : Whole F) (j : S4094x512.Idx) : inner Y j
    = taps (whole2 Y (j 0).val (Nat.lt_of_lt_of_le (j 0).isLt (by decide)) (j 1))
        (whole2 Y ((j 0).val + 1) (Nat.lt_of_lt_of_le (Nat.add_lt_add_right (j 0).isLt 1) (by decide)) (j 1))
        (whole2 Y ((j 0).val + 2) (Nat.lt_of_lt_of_le (Nat.add_lt_add_right (j 0).isLt 2) (by decide)) (j 1)) := by
  have h (o : ℕ) (hs : S4096x512.Slices ![o, 0] S4094x512) (ho : (j 0).val + o < 4096) :
      extractStridedSlice S4094x512 ![o, 0] Y hs j = whole2 Y ((j 0).val + o) ho (j 1) :=
    extractStridedSlice_apply _ _ _ _ _ (Fin.forall_fin_two.mpr ⟨Nat.add_comm _ _, (Nat.zero_add _).symm⟩)
  have hq (b : BitVec 32) : broadcastInDim S4094x512 ![] bcast_S_S4094x512 (constant (F := F) S_ .f32 b) j = FloatOps.ofBits .f32 b := rfl
  unfold inner taps
  show FloatOps.addf (FloatOps.addf (FloatOps.mulf (broadcastInDim S4094x512 ![] bcast_S_S4094x512 (constant S_ .f32 0x3E800000#32) j) (extractStridedSlice S4094x512 ![0, 0] Y slices_S4096x512_S4094x512_0_0 j))
      (FloatOps.mulf (broadcastInDim S4094x512 ![] bcast_S_S4094x512 (constant S_ .f32 0x3F000000#32) j) (extractStridedSlice S4094x512 ![1, 0] Y slices_S4096x512_S4094x512_1_0 j)))
    (FloatOps.mulf (broadcastInDim S4094x512 ![] bcast_S_S4094x512 (constant S_ .f32 0x3E800000#32) j) (extractStridedSlice S4094x512 ![2, 0] Y slices_S4096x512_S4094x512_2_0 j)) = _
  rw [hq, hq, h 0 _ (Nat.lt_of_lt_of_le (j 0).isLt (by decide)), h 1 _ (Nat.lt_of_lt_of_le (Nat.add_lt_add_right (j 0).isLt 1) (by decide)),
    h 2 _ (Nat.lt_of_lt_of_le (Nat.add_lt_add_right (j 0).isLt 2) (by decide))]
  rfl

/-- The first row of the result is the argument's; -/
theorem filtered_first (Y : Whole F) (i : S4096x512.Idx) (h : (i 0).val = 0) : filtered Y i = Y i := by
  unfold filtered
  refine (concatenate_apply_piece (0 : Fin 2) (pieces Y) _ i 0 (show 0 < 3 by decide) S1x512 _ rfl rfl 0 rfl (ix2 0 (i 1)) (Fin.forall_fin_two.mpr ⟨fun hb => absurd rfl hb, fun _ => rfl⟩)
    (by show 0 + 0 = _; omega)).trans ?_
  exact extractStridedSlice_apply _ _ _ _ _ (Fin.forall_fin_two.mpr ⟨by show (i 0).val = 0 + 0; omega, (Nat.zero_add _).symm⟩)

/-- so is the last; -/
theorem filtered_last (Y : Whole F) (i : S4096x512.Idx) (h : (i 0).val = 4095) : filtered Y i = Y i := by
  unfold filtered
  refine (concatenate_apply_piece (0 : Fin 2) (pieces Y) _ i 2 (show 2 < 3 by decide) S1x512 _ rfl rfl 4095 rfl (ix2 0 (i 1)) (Fin.forall_fin_two.mpr ⟨fun hb => absurd rfl hb, fun _ => rfl⟩)
    (by show 4095 + 0 = _; omega)).trans ?_
  exact extractStridedSlice_apply _ _ _ _ _ (Fin.forall_fin_two.mpr ⟨by show (i 0).val = 4095 + 0; omega, (Nat.zero_add _).symm⟩)

/-- and between them an element is the filter of the element and its two vertical neighbours. -/
theorem filtered_inner (Y : Whole F) (i : S4096x512.Idx) (h0 : 0 < (i 0).val) (h1 : (i 0).val < 4095) :
    filtered Y i = taps (whole2 Y ((i 0).val - 1) (by omega) (i 1)) (Y i) (whole2 Y ((i 0).val + 1) (by omega) (i 1)) := by
  unfold filtered
  refine (concatenate_apply_piece (0 : Fin 2) (pieces Y) _ i 1 (show 1 < 3 by decide) S4094x512 _ rfl rfl 1 rfl (ix2 ⟨(i 0).val - 1, by omega⟩ (i 1))
    (Fin.forall_fin_two.mpr ⟨fun hb => absurd rfl hb, fun _ => rfl⟩) (by show 1 + ((i 0).val - 1) = _; omega)).trans ?_
  rw [inner_apply]
  have hm : whole2 Y ((i 0).val - 1 + 1) (by omega) (i 1) = Y i :=
    congrArg Y (funext (Fin.forall_fin_two.mpr ⟨Fin.ext (by show (i 0).val - 1 + 1 = (i 0).val; omega), rfl⟩))
  have hd : whole2 Y ((i 0).val - 1 + 2) (by omega) (i 1) = whole2 Y ((i 0).val + 1) (by omega) (i 1) :=
    congrArg Y (funext (Fin.forall_fin_two.mpr ⟨Fin.ext (by show (i 0).val - 1 + 2 = (i 0).val + 1; omega), rfl⟩))
  exact congrArg₂ (taps _) hm hd

end Cert.Halo

end
-- ==== Proof.Frames.lean ====
/-
The frames: after every run the program's, the kernel's and the reference's arguments are as they were and every
semaphore counter is at zero.
-/
module

public import proofs.«01_k».proof.Defs
public import proofs.«01_k».proof.Proof.Launch
public import proofs.«01_k».proof.Proof.Filtered
public import proofs.«01_k».proof.Proof.Gen.Kernel

@[expose] public section

noncomputable section

namespace Cert.Halo

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel read at the extended reals keeps its argument and leaves its counters at zero. -/
theorem frame_ideal : Cert.quiescent_KernelIdeal := fun m ρ _ =>
  (θ_run Cert.KernelIdeal.defs _ _).mono (fun _ h => ⟨fun c => (h.1 c).2, h.2⟩) (run_main (F := Ideal) m ρ)

section
variable {F : FTy → Type} [FloatOps F]

/-- The two readings of the kernel have one body: the texts are the same. -/
theorem body_same : @Cert.Kernel.cc0_body F _ _ = @Cert.KernelIdeal.cc0_body F _ _ := rfl

/-- So their tables of bodies are the same, at every label. -/
theorem bodies_same : @Cert.Kernel.defs₀ F _ _ = @Cert.KernelIdeal.defs₀ F _ _ := by
  delta Cert.Kernel.defs₀ Cert.KernelIdeal.defs₀
  refine congrArg (Defs.onTc (τ := Cert.Kernel.τ)) ?_
  funext l a
  match l, a with
  | 0, (t, s) =>
    show Cert.Kernel.cc0_body _ _ _ _ _ _ _ _ = Cert.KernelIdeal.cc0_body _ _ _ _ _ _ _ _
    rw [body_same]

/-- And so are the tables with the launch's region and pipeline added. -/
theorem tables_same : @Cert.Kernel.defs F _ _ = @Cert.KernelIdeal.defs F _ _ :=
  congrArg (Pipeline.defs (Cert.KernelIdeal.pcfgs (F := F))) bodies_same

end

/-- The kernel read at the machine's floats is the same text, and the run above holds for any float values. -/
theorem frame_kernel : Cert.quiescent_Kernel := fun m ρ _ => by
  rw [tables_same]
  exact (θ_run Cert.KernelIdeal.defs _ _).mono (fun _ h => ⟨fun c => (h.1 c).2, h.2⟩) (run_main (F := Bits) m ρ)

/-- The reference keeps its argument, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (reference_run (F := Ideal) m ρ)

end Cert.Halo

end
-- ==== Proof.Blocks.lean ====
/-
The equation: over the extended reals, each device's block of the kernel's result is its block of the reference's.

The kernel computes a quarter of the sum of the two neighbours and adds half the element; the reference adds three products
from the top down. The two agree because a quarter is positive and finite, so it distributes over any sum, infinite
or not.
-/
module

public import proofs.«01_k».proof.Proof.Contents
public import proofs.«01_k».proof.Proof.Filtered
public import Idealize.ShloMosaic.PureOps.Ideal
public import Idealize.ShloMosaic.Lib.Layout

@[expose] public section

noncomputable section

namespace Cert.Halo

open Cert.KernelIdeal Cert.KernelIdeal.Gen
open Idealize.ShloMosaic Idealize.ShloMosaic.ValueIdx

/-- The word of the outer coefficient denotes a quarter. -/
theorem quarter_eq : (FloatOps.ofBits .f32 0x3E800000#32 : Ideal .f32) = (((1 : ℝ) / 4 : ℝ) : EReal) := by
  show Ideal.ofBits .f32 0x3E800000#32 = _
  simp [Ideal.ofBits, Ideal.ieee, -EReal.coe_mul]; norm_num

/-- The two orders of operations give the same extended real. -/
theorem tap_eq_taps (up down mid : Ideal .f32) : tap up down mid = taps up mid down := by
  show (FloatOps.ofBits .f32 0x3E800000#32 : Ideal .f32) * (up + down) + (FloatOps.ofBits .f32 0x3F000000#32 : Ideal .f32) * mid
    = (FloatOps.ofBits .f32 0x3E800000#32 : Ideal .f32) * up + (FloatOps.ofBits .f32 0x3F000000#32 : Ideal .f32) * mid
      + (FloatOps.ofBits .f32 0x3E800000#32 : Ideal .f32) * down
  have hd : (FloatOps.ofBits .f32 0x3E800000#32 : Ideal .f32) * (up + down)
      = (FloatOps.ofBits .f32 0x3E800000#32 : Ideal .f32) * up + (FloatOps.ofBits .f32 0x3E800000#32 : Ideal .f32) * down := by
    rw [quarter_eq]
    exact EReal.left_distrib_of_nonneg_of_ne_top (EReal.coe_nonneg.mpr (by norm_num)) (EReal.coe_ne_top _) up down
  rw [hd]
  exact add_right_comm _ _ _

/-- Device `c`'s block of a whole array: 1024 rows from row `1024 c`. -/
abbrev part {F : FTy → Type} (Y : Whole F) (c : Dev nD) : Block F := Layout.block ⟨2, ![1024, 512]⟩ ⟨2, ![4096, 512]⟩ 0 4 c Y

variable {F : FTy → Type} [FloatOps F] (Y : Whole F)

omit [FloatOps F] in
/-- A block's element is the whole array's, `1024 c` rows further down. -/
theorem part_at (c : Dev nD) (r : ℕ) (hr : r < 1024) (l : Fin 512) (R : ℕ) (hR : R < 4096) (h : R = c.val * 1024 + r) :
    at2 (part Y c) r hr l = whole2 Y R hR l :=
  congrArg Y (funext (Fin.forall_fin_two.mpr ⟨Fin.ext h.symm, rfl⟩))

omit [FloatOps F] in
/-- The element above, when the row is not the array's first, is the whole array's one row up; -/
theorem above_part (c : Dev nD) (i : S1024x512.Idx) (R : ℕ) (hR : R < 4096) (h : R + 1 = c.val * 1024 + (i 0).val) :
    above (part Y) c i = whole2 Y R hR (i 1) := by
  have hi : (i 0).val < 1024 := (i 0).isLt
  have hc : c.val < 4 := c.isLt
  unfold above
  by_cases h0 : (i 0).val = 0
  · rw [if_pos h0]
    exact part_at Y (prv c) 1023 _ _ R hR (by show R = (c.val + 3) % 4 * 1024 + 1023; omega)
  · rw [if_neg h0]
    exact part_at Y c _ _ _ R hR (by omega)

omit [FloatOps F] in
/-- and the element below, when the row is not the array's last, one row down. -/
theorem below_part (c : Dev nD) (i : S1024x512.Idx) (R : ℕ) (hR : R < 4096) (h : R = c.val * 1024 + (i 0).val + 1) :
    below (part Y) c i = whole2 Y R hR (i 1) := by
  have hi : (i 0).val < 1024 := (i 0).isLt
  have hc : c.val < 4 := c.isLt
  unfold below
  by_cases h1 : (i 0).val < 1023
  · rw [dif_pos h1]
    exact part_at Y c _ _ _ R hR (by omega)
  · rw [dif_neg h1]
    exact part_at Y (nxt c) 0 _ _ R hR (by show R = (c.val + 1) % 4 * 1024 + 0; omega)

/-- Each device's block of the kernel's result is that block of the reference's. -/
theorem outOf_part (Y : Whole Ideal) (c : Dev nD) : outOf (part Y) c = part (filtered Y) c := by
  funext i
  have hi : (i 0).val < 1024 := (i 0).isLt
  have hc : c.val < 4 := c.isLt
  have hT : Layout.Tiles ⟨2, ![1024, 512]⟩ ⟨2, ![4096, 512]⟩ 0 4 := by decide
  have hrow : (hT.idx c i 0).val = c.val * 1024 + (i 0).val := rfl
  show outOf (part Y) c i = filtered Y (hT.idx c i)
  unfold outOf
  by_cases hk : Kept c i
  · rw [if_pos hk]
    rcases hk with ⟨h, h'⟩ | ⟨h, h'⟩
    · have hc0 : c.val = 0 := congrArg Fin.val h
      exact (filtered_first Y _ (by rw [hrow]; omega)).symm
    · have hc3 : c.val = 3 := congrArg Fin.val h
      exact (filtered_last Y _ (by rw [hrow]; omega)).symm
  · rw [if_neg hk]
    have h0 : ¬ (c.val = 0 ∧ (i 0).val = 0) := fun h => hk (Or.inl ⟨Fin.ext h.1, h.2⟩)
    have h3 : ¬ (c.val = 3 ∧ (i 0).val = 1023) := fun h => hk (Or.inr ⟨Fin.ext h.1, h.2⟩)
    rw [filtered_inner Y _ (by rw [hrow]; omega) (by rw [hrow]; omega), tap_eq_taps,
      above_part Y c i ((hT.idx c i 0).val - 1) (by rw [hrow]; omega) (by rw [hrow]; omega),
      below_part Y c i ((hT.idx c i 0).val + 1) (by rw [hrow]; omega) (by rw [hrow])]
    rfl

end Cert.Halo

end
-- ==== Proof.lean ====
/-
The claims, each from the module that proves it: the three frames, that the ideal text is the program's own, and that each
device's block of the kernel's result is its block of the reference's.
-/
module

public import proofs.«01_k».proof.Defs
public import proofs.«01_k».proof.Proof.Frames
public import proofs.«01_k».proof.Proof.Blocks

@[expose] public section

noncomputable section

namespace Cert.Proof

open Idealize.ShloMosaic Idealize.SL.Sem Cert.Halo

/-- The value: the four devices' results are the four blocks of the reference's result. -/
theorem value : Cert.algebraic_KernelIdeal_ReferenceIdeal := fun m ρ m' ρ' _ hx => by
  refine ⟨filtered (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).1.trans ?_, (h.1 c).2⟩) (run_main (F := Ideal) m ρ)
    exact (congrArg (fun X => outOf X c) (funext hx)).trans (outOf_part _ c)
  · exact (θ_run Cert.ReferenceIdeal.defs _ _).mono (fun _ h => h 0) (reference_run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
